-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_teacher_row_maxima_finite [hPre_teacher_row_maxima_finite : Cert.Pre_teacher_row_maxima_finite.Facts] (m : (ℓ : Loc Cert.KernelIdeal.nD Cert.KernelIdeal.τ Cert.KernelIdeal.sig) → Buf (Elt Ideal) ℓ) : Prop :=
  ∀ c : Dev Cert.KernelIdeal.nD,
    (Cert.Pre_teacher_row_maxima_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_teacher_row_maxima_finite [hPre_teacher_row_maxima_finite : Cert.Pre_teacher_row_maxima_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_teacher_row_maxima_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_teacher_row_maxima_finite [hKernelIdeal : Cert.KernelIdeal.Facts] [hPre_teacher_row_maxima_finite : Cert.Pre_teacher_row_maxima_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_teacher_row_maxima_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_teacher_row_maxima_finite [hReferenceIdeal : Cert.ReferenceIdeal.Facts] [hPre_teacher_row_maxima_finite : Cert.Pre_teacher_row_maxima_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_teacher_row_maxima_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_teacher_row_maxima_finite [hKernelIdeal : Cert.KernelIdeal.Facts] [hReferenceIdeal : Cert.ReferenceIdeal.Facts] [hPre_teacher_row_maxima_finite : Cert.Pre_teacher_row_maxima_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_teacher_row_maxima_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_teacher_row_maxima_finite : Cert.Pre_teacher_row_maxima_finite.Facts),
    quiescent_Kernel (hKernel := hKernel)
    ∧ quiescent_KernelIdeal (hKernelIdeal := hKernelIdeal)
    ∧ quiescent_KernelIdeal_pre_teacher_row_maxima_finite (hKernelIdeal := hKernelIdeal) (hPre_teacher_row_maxima_finite := hPre_teacher_row_maxima_finite)
    ∧ quiescent_ReferenceIdeal (hReferenceIdeal := hReferenceIdeal)
    ∧ quiescent_ReferenceIdeal_pre_teacher_row_maxima_finite (hReferenceIdeal := hReferenceIdeal) (hPre_teacher_row_maxima_finite := hPre_teacher_row_maxima_finite)
    ∧ preserves_Kernel_KernelIdeal
    ∧ algebraic_KernelIdeal_ReferenceIdeal_pre_teacher_row_maxima_finite (hKernelIdeal := hKernelIdeal) (hReferenceIdeal := hReferenceIdeal) (hPre_teacher_row_maxima_finite := hPre_teacher_row_maxima_finite)
-- ==== Pre_teacher_row_maxima_finite.lean ====
abbrev S128 : Shape := ⟨1, ![128]⟩
abbrev S128x100000 : Shape := ⟨2, ![128, 100000]⟩
abbrev S_ : Shape := ⟨0, ![]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S128 32) (main_arg1 : FVec F S128x100000 .f32) (main_arg2 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg1 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  let main_c : IVec S_ 1 := constantI S_ 1 1#1
  let main_v6 : IVec S_ 1 := (fun x v => Host.reduce IntOp.andi x v reducesTo_S128_S_d0 h_S_) main_v5 main_c
  main_v6
-- ==== Kernel.lean ====
abbrev S128 : Shape := ⟨1, ![128]⟩
abbrev S128x100000 : Shape := ⟨2, ![128, 100000]⟩
abbrev S1x1 : Shape := ⟨2, ![1, 1]⟩
abbrev S128x8192 : Shape := ⟨2, ![128, 8192]⟩
abbrev S128x128 : Shape := ⟨2, ![128, 128]⟩
abbrev S1x8192 : Shape := ⟨2, ![1, 8192]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S128, .i32⟩
  | .hbm, ⟨1, _⟩ => ⟨S128x100000, .f32⟩
  | .hbm, ⟨2, _⟩ => ⟨S128x100000, .f32⟩
  | .hbm, ⟨3, _⟩ => ⟨S1x1, .f32⟩
  | .hbm, ⟨4, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x1, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![13], ![false]⟩

def k0_cond3 (i : grid0.Coords) : BitVec 1 :=
  let arg0 : BitVec 32 := BitVec.ofNat 32 (i 0).val
  let c12_i32_2 : BitVec 32 := 12#32
  let v6 : BitVec 1 := Scalar.cmpi .eq arg0 c12_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S128 : Shape := ⟨1, ![128]⟩
abbrev S128x100000 : Shape := ⟨2, ![128, 100000]⟩
abbrev S128x50 : Shape := ⟨2, ![128, 50]⟩
abbrev S128x99950 : Shape := ⟨2, ![128, 99950]⟩
abbrev S_ : Shape := ⟨0, ![]⟩
abbrev S128x100000x1 : Shape := ⟨3, ![128, 100000, 1]⟩
abbrev S1 : Shape := ⟨1, ![1]⟩
abbrev S1x1x1 : Shape := ⟨3, ![1, 1, 1]⟩
abbrev S128x1 : Shape := ⟨2, ![128, 1]⟩

abbrev nBuf : Space → Nat
  | .hbm => 97
  | .vmem => 0
  | .smem => 0
  | _ => 0

abbrev bufTy : (tb : Table) → Fin (tcTables nBuf tb) → BufTy
  | .hbm, ⟨0, _⟩ => ⟨S128, .i32⟩
  | .hbm, ⟨1, _⟩ => ⟨S128x100000, .f32⟩
  | .hbm, ⟨2, _⟩ => ⟨S128x100000, .f32⟩
  | .hbm, ⟨3, _⟩ => ⟨S128x100000, .f32⟩
  | .hbm, ⟨4, _⟩ => ⟨S128x100000, .i32⟩
  | .hbm, ⟨5, _⟩ => ⟨S128x100000, .f32⟩
  | .hbm, ⟨6, _⟩ => ⟨S128x100000, .i32⟩
  | .hbm, ⟨7, _⟩ => ⟨S128x50, .i32⟩
  | .hbm, ⟨8, _⟩ => ⟨S128x99950, .i32⟩
  | .hbm, ⟨9, _⟩ => ⟨S128x100000, .i32⟩
  | .hbm, ⟨10, _⟩ => ⟨S_, .i32⟩
  | .hbm, ⟨11, _⟩ => ⟨S128x100000, .i32⟩
  | .hbm, ⟨12, _⟩ => ⟨S128x100000, .i1⟩
  | .hbm, ⟨13, _⟩ => ⟨S_, .i32⟩
  | .hbm, ⟨14, _⟩ => ⟨S128x100000, .i32⟩
  | .hbm, ⟨15, _⟩ => ⟨S128x100000, .i32⟩
  | .hbm, ⟨16, _⟩ => ⟨S128x100000, .i32⟩
  | .hbm, ⟨17, _⟩ => ⟨S128x100000x1, .i32⟩
  | .hbm, ⟨18, _⟩ => ⟨S1, .i32⟩
  | .hbm, ⟨19, _⟩ => ⟨S_, .i32⟩
  | .hbm, ⟨20, _⟩ => ⟨S128x100000x1, .i32⟩
  | .hbm, ⟨21, _⟩ => ⟨S128x100000x1, .i1⟩
  | .hbm, ⟨22, _⟩ => ⟨S1x1x1, .i32⟩
  | .hbm, ⟨23, _⟩ => ⟨S128x100000x1, .i32⟩
  | .hbm, ⟨24, _⟩ => ⟨S128x100000x1, .i1⟩
  | .hbm, ⟨25, _⟩ => ⟨S128x100000x1, .i1⟩
  | .hbm, ⟨26, _⟩ => ⟨S_, .i1⟩
  | .hbm, ⟨27, _⟩ => ⟨S128x100000, .i1⟩
  | .hbm, ⟨28, _⟩ => ⟨S128x100000, .f32⟩
  | .hbm, ⟨29, _⟩ => ⟨S_, .f32⟩
  | .hbm, ⟨30, _⟩ => ⟨S128x100000, .f32⟩
  | .hbm, ⟨31, _⟩ => ⟨S128x100000, .f32⟩
  | .hbm, ⟨32, _⟩ => ⟨S_, .i32⟩
  | .hbm, ⟨33, _⟩ => ⟨S128x100000, .i32⟩
  | .hbm, ⟨34, _⟩ => ⟨S128x100000, .i1⟩
  | .hbm, ⟨35, _⟩ => ⟨S_, .i32⟩
  | .hbm, ⟨36, _⟩ => ⟨S128x100000, .i32⟩
  | .hbm, ⟨37, _⟩ => ⟨S128x100000, .i32⟩
  | .hbm, ⟨38, _⟩ => ⟨S128x100000, .i32⟩
  | .hbm, ⟨39, _⟩ => ⟨S128x100000x1, .i32⟩
  | .hbm, ⟨40, _⟩ => ⟨S1, .i32⟩
  | .hbm, ⟨41, _⟩ => ⟨S_, .i32⟩
  | .hbm, ⟨42, _⟩ => ⟨S128x100000x1, .i32⟩
  | .hbm, ⟨43, _⟩ => ⟨S128x100000x1, .i1⟩
  | .hbm, ⟨44, _⟩ => ⟨S1x1x1, .i32⟩
  | .hbm, ⟨45, _⟩ => ⟨S128x100000x1, .i32⟩
  | .hbm, ⟨46, _⟩ => ⟨S128x100000x1, .i1⟩
  | .hbm, ⟨47, _⟩ => ⟨S128x100000x1, .i1⟩
  | .hbm, ⟨48, _⟩ => ⟨S_, .i1⟩
  | .hbm, ⟨49, _⟩ => ⟨S128x100000, .i1⟩
  | .hbm, ⟨50, _⟩ => ⟨S128x100000, .f32⟩
  | .hbm, ⟨51, _⟩ => ⟨S_, .f32⟩
  | .hbm, ⟨52, _⟩ => ⟨S128x100000, .f32⟩
  | .hbm, ⟨53, _⟩ => ⟨S128x100000, .f32⟩
  | .hbm, ⟨54, _⟩ => ⟨S_, .f32⟩
  | .hbm, ⟨55, _⟩ => ⟨S128x100000, .f32⟩
  | .hbm, ⟨56, _⟩ => ⟨S128x100000, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128x1, .f32⟩
  | .hbm, ⟨63, _⟩ => ⟨S128x100000, .f32⟩
  | .hbm, ⟨64, _⟩ => ⟨S128x100000, .f32⟩
  | .hbm, ⟨65, _⟩ => ⟨S128x100000, .f32⟩
  | .hbm, ⟨66, _⟩ => ⟨S_, .f32⟩
  | .hbm, ⟨67, _⟩ => ⟨S128, .f32⟩
  | .hbm, ⟨68, _⟩ => ⟨S128x1, .f32⟩
  | .hbm, ⟨69, _⟩ => ⟨S128x100000, .f32⟩
  | .hbm, ⟨70, _⟩ => ⟨S128x100000, .f32⟩
  | .hbm, ⟨71, _⟩ => ⟨S_, .f32⟩
  | .hbm, ⟨72, _⟩ => ⟨S128x100000, .f32⟩
  | .hbm, ⟨73, _⟩ => ⟨S128x100000, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128x1, .f32⟩
  | .hbm, ⟨80, _⟩ => ⟨S128x100000, .f32⟩
  | .hbm, ⟨81, _⟩ => ⟨S128x100000, .f32⟩
  | .hbm, ⟨82, _⟩ => ⟨S128x100000, .f32⟩
  | .hbm, ⟨83, _⟩ => ⟨S_, .f32⟩
  | .hbm, ⟨84, _⟩ => ⟨S128, .f32⟩
  | .hbm, ⟨85, _⟩ => ⟨S128x1, .f32⟩
  | .hbm, ⟨86, _⟩ => ⟨S128x1, .f32⟩
  | .hbm, ⟨87, _⟩ => ⟨S128x100000, .f32⟩
  | .hbm, ⟨88, _⟩ => ⟨S128x100000, .f32⟩
  | .hbm, ⟨89, _⟩ => ⟨S128x100000, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v5 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩
abbrev main_v8 : Ref sig .tc := ⟨.hbm, 56, rfl⟩
abbrev main_cst_0 : Ref sig .tc := ⟨.hbm, 57, rfl⟩
abbrev main_v9 : Ref sig .tc := ⟨.hbm, 58, rfl⟩
abbrev main_cst_1 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_2 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst_3 : Ref sig .tc := ⟨.hbm, 71, rfl⟩
abbrev main_v20 : Ref sig .tc := ⟨.hbm, 72, rfl⟩
abbrev main_v21 : Ref sig .tc := ⟨.hbm, 73, rfl⟩
abbrev main_call3_cst : Ref sig .tc := ⟨.hbm, 74, rfl⟩
abbrev main_call3_v0 : Ref sig .tc := ⟨.hbm, 75, rfl⟩
abbrev main_call3_cst_0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_cst_1 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_v22 : Ref sig .tc := ⟨.hbm, 88, rfl⟩
abbrev main_v23 : Ref sig .tc := ⟨.hbm, 89, rfl⟩
abbrev main_cst_4 : Ref sig .tc := ⟨.hbm, 90, rfl⟩
abbrev main_v24 : Ref sig .tc := ⟨.hbm, 91, rfl⟩
abbrev main_cst_5 : Ref sig .tc := ⟨.hbm, 92, rfl⟩
abbrev main_v25 : Ref sig .tc := ⟨.hbm, 93, rfl⟩
abbrev main_cst_6 : Ref sig .tc := ⟨.hbm, 94, rfl⟩
abbrev main_v26 : Ref sig .tc := ⟨.hbm, 95, rfl⟩
abbrev main_v27 : Ref sig .tc := ⟨.hbm, 96, rfl⟩

abbrev nD : Nat := 1
abbrev τ : Topo := Topo.v7x

variable {F : FTy → Type} [FloatOps F]
-- ==== Proof.Body.lean ====
/- The kernel body on whole staging buffers, in its three cases: the first point (clear, then add), a middle point (add), and
   the last point (mask, add, finish). Each case names what it leaves in the three accumulators and the result. -/
module

public import proofs.«01_k».proof.Proof.Gen.KernelIdeal.Frame
public import proofs.«01_k».proof.Proof.Gen.KernelIdeal.Skeleton
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three accumulators: the teacher's exponentials, the weighted student scores, the student's exponentials. -/
abbrev Acc (F : FTy → Type) [FloatOps F] := Vec F S128x128 .f32 × Vec F S128x128 .f32 × Vec F S128x128 .f32

/-- The accumulators after the clearing of the first point. -/
def cleared : Acc F := (k0_pay1, k0_pay2, k0_pay3)

/-- The accumulators after one whole block of teacher scores `x` and student scores `y` is added to `a`. -/
def addBlock (x y : Vec F S128x8192 .f32) (a : Acc F) : Acc F :=
  (k0_pay10 (k0_pay5 x) a.1 (k0_pay8 (k0_pay5 x) (k0_pay6 x) (k0_pay7 x)) (k0_pay9 (k0_pay5 x)),
   k0_pay16 a.2.1 (k0_pay11 y (k0_pay5 x))
     (k0_pay14 (k0_pay11 y (k0_pay5 x)) (k0_pay12 y (k0_pay5 x)) (k0_pay13 y (k0_pay5 x))) (k0_pay15 (k0_pay11 y (k0_pay5 x))),
   k0_pay22 a.2.2 (k0_pay17 y) (k0_pay20 (k0_pay17 y) (k0_pay18 y) (k0_pay19 y)) (k0_pay21 (k0_pay17 y)))

/-- The accumulators after the last block, masked by the grid coordinate `w`, is added to `a`. -/
def addLast (w : BitVec 32) (x y : Vec F S128x8192 .f32) (a : Acc F) : Acc F :=
  (k0_pay30 (k0_pay25 w x) a.1 (k0_pay28 (k0_pay25 w x) (k0_pay26 w x) (k0_pay27 w x)) (k0_pay29 (k0_pay25 w x)),
   k0_pay36 a.2.1 (k0_pay31 (k0_pay24 w y) (k0_pay25 w x))
     (k0_pay34 (k0_pay31 (k0_pay24 w y) (k0_pay25 w x)) (k0_pay32 (k0_pay24 w y) (k0_pay25 w x)) (k0_pay33 (k0_pay24 w y) (k0_pay25 w x)))
     (k0_pay35 (k0_pay31 (k0_pay24 w y) (k0_pay25 w x))),
   k0_pay40 a.2.2 (k0_pay37 (k0_pay23 w) (k0_pay24 w y))
     (k0_pay39 (k0_pay37 (k0_pay23 w) (k0_pay24 w y)) (k0_pay38 (k0_pay23 w) (k0_pay24 w y))))

/-- Adding a block depends only on what is read. -/
theorem addBlock_congr {x x' y y' : Vec F S128x8192 .f32} {z z' s s' w w' : Vec F S128x128 .f32} (hx : x' = x) (hy : y' = y)
    (hz : z' = z) (hs : s' = s) (hw : w' = w) : addBlock x' y' (z', s', w') = addBlock x y (z, s, w) := by
  subst hx hy hz hs hw; rfl

/-- Adding the last block depends only on what is read. -/
theorem addLast_congr (i : BitVec 32) {x x' y y' : Vec F S128x8192 .f32} {z z' s s' w w' : Vec F S128x128 .f32} (hx : x' = x)
    (hy : y' = y) (hz : z' = z) (hs : s' = s) (hw : w' = w) : addLast i x' y' (z', s', w') = addLast i x y (z, s, w) := by
  subst hx hy hz hs hw; rfl

/-- The result the last point stores, from the accumulators. -/
def finish (a : Acc F) : Vec F S1x1 .f32 := k0_pay4 (k0_pay41 a.1 a.2.1 a.2.2) (Scalar.ofBits .f32 0x00000000#32)

/-- The result depends only on what is read. -/
theorem finish_congr {z z' s s' w w' : Vec F S128x128 .f32} (hz : z' = z) (hs : s' = s) (hw : w' = w) :
    finish (z', s', w') = finish (z, s, w) := by
  subst hz hs hw; rfl

/-- A buffer whose last store covers the whole of it reads as what was stored. -/
theorem read_store_whole {sg : RefSig} {κ : Kind} {sp : Space} {s : Shape} {e : EltTy} {Val : EltTy → Type} (v : View sg κ sp s e)
    (f : v.ty.Contents Val) {off : Fin s.rank → ℕ} (h : off = fun _ => 0) (inb : ∀ a, off a + s.size a ≤ s.size a)
    (w : s.Idx → Val e) (L : List (View.Piece Val s e)) :
    v.read Val (v.writes Val f (⟨Rect.unit off s.size inb, w⟩ :: L)) = w := by
  subst h
  funext x
  have hx : (Rect.unit (s := s) (fun _ => 0) s.size inb).emb x = x := by
    funext a; apply Fin.ext; simp [Rect.emb, Rect.unit]
  have := View.read_writes_cons_emb (Val := Val) (v := v) (f := f) (Rect.unit (s := s) (fun _ => 0) s.size inb) w L x
  rw [hx] at this
  exact this

/-- The printed zero offsets are the zero offsets. -/
theorem zero_off : (![0, 0] : Fin 2 → ℕ) = fun _ => 0 := by
  funext a; fin_cases a <;> rfl

/-- An accumulator just stored reads as what was stored. -/
theorem read_acc (v : View sig .tc .vmem S128x128 .f32) (f : v.ty.Contents (Elt F)) (w : Vec F S128x128 .f32)
    (L : List (View.Piece (Elt F) S128x128 .f32)) (x : Vec F S128x128 .f32) (hw : w = x) :
    v.read (Elt F) (v.writes (Elt F) f (⟨Rect.unit ![0, 0] S128x128.size inb_S128x128_S128x128_0_0, w⟩ :: L)) = x :=
  (read_store_whole v f zero_off inb_S128x128_S128x128_0_0 w L).trans hw

/-- A load of a whole accumulator reads it. -/
theorem load_acc (v : View sig .tc .vmem S128x128 .f32) (f : v.ty.Contents (Elt F)) :
    v.readAt (Elt F) (Rect.unit ![0, 0] S128x128.size inb_S128x128_S128x128_0_0).toLoadRect f = v.read (Elt F) f := by
  funext x
  rw [View.readAt_apply]
  congr 1
  funext a; fin_cases a <;> apply Fin.ext <;> simp [Rect.toLoadRect, Rect.unit, LoadRect.idx]

/-- A load of a whole accumulator just stored reads what was stored. -/
theorem load_stored (v : View sig .tc .vmem S128x128 .f32) (w : Vec F S128x128 .f32) (L : List (View.Piece (Elt F) S128x128 .f32))
    (x : Vec F S128x128 .f32) (hw : w = x) :
    v.readCov (⟨Rect.unit ![0, 0] S128x128.size inb_S128x128_S128x128_0_0, w⟩ :: L)
      (Rect.unit ![0, 0] S128x128.size inb_S128x128_S128x128_0_0).toLoadRect = x :=
  (load_acc v _).trans (read_acc v _ w L x hw)

/-- The result just stored reads as what was stored. -/
theorem read_result (v : View sig .tc .vmem S1x1 .f32) (f : v.ty.Contents (Elt F)) (w : Vec F S1x1 .f32)
    (L : List (View.Piece (Elt F) S1x1 .f32)) (x : Vec F S1x1 .f32) (hw : w = x) :
    v.read (Elt F) (v.writes (Elt F) f (⟨Rect.unit ![0, 0] ![1, 1] inb_S1x1_S1x1_0_0, w⟩ :: L)) = x :=
  (read_store_whole v f zero_off inb_S1x1_S1x1_0_0 w L).trans hw

/-- A load of a whole block of scores reads it. -/
theorem load_block (v : View sig .tc .vmem S128x8192 .f32) (f : v.ty.Contents (Elt F)) :
    v.readAt (Elt F) (Rect.unit ![0, 0] S128x8192.size inb_S128x8192_S128x8192_0_0).toLoadRect f = v.read (Elt F) f := by
  funext x
  rw [View.readAt_apply]
  congr 1
  funext a; fin_cases a <;> apply Fin.ext <;> simp [Rect.toLoadRect, Rect.unit, LoadRect.idx]

/-- The condition of the first `scf.if`: the first point. -/
abbrev cond1 (i : grid0.Coords) : Prop := (Scalar.cmpi .ne (Scalar.extui (Scalar.cmpi .eq (BitVec.ofNat 32 (i 0).val) 0#32)) 0#32) = 1#1
/-- The condition of the second: a point before the last. -/
abbrev cond2 (i : grid0.Coords) : Prop := (Scalar.cmpi .ne (Scalar.extui (Scalar.cmpi .slt (BitVec.ofNat 32 (i 0).val) 12#32)) 0#32) = 1#1
/-- The condition of the third: the last point. -/
abbrev cond3 (i : grid0.Coords) : Prop := k0_cond3 i = 1#1

/-- The first condition holds at the first point only. -/
theorem cond1_iff : ∀ t : Fin cfg0.N, cond1 (grid0.coords t) ↔ t.val = 0 :=
  (by decide +kernel : ∀ t : Fin grid0.N, cond1 (grid0.coords t) ↔ t.val = 0)
/-- The second condition holds at every point before the last. -/
theorem cond2_iff : ∀ t : Fin cfg0.N, cond2 (grid0.coords t) ↔ t.val < 12 :=
  (by decide +kernel : ∀ t : Fin grid0.N, cond2 (grid0.coords t) ↔ t.val < 12)
/-- The third condition holds at the last point only. -/
theorem cond3_iff : ∀ t : Fin cfg0.N, cond3 (grid0.coords t) ↔ t.val = 12 :=
  (by decide +kernel : ∀ t : Fin grid0.N, cond3 (grid0.coords t) ↔ t.val = 12)

set_option maxHeartbeats 1200000 in
/-- A point between the first and the last: the body adds its block to the accumulators and leaves the rest as it was. -/
theorem run_middle (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole)
    (hc1 : ¬cond1 i) (hc2 : cond2 i) (hc3 : ¬cond3 i)
    (x y : Vec F S128x8192 .f32) (a : Acc F) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x ∗ owns (c : Thread nD τ) arg2 fullShare y ∗ owns (c : Thread nD τ) arg3 fullShare o
            ∗ owns (c : Thread nD τ) arg4 fullShare (addBlock x y a).1 ∗ owns (c : Thread nD τ) arg5 fullShare (addBlock x y a).2.1
            ∗ owns (c : Thread nD τ) arg6 fullShare (addBlock x y a).2.2) -∗ K ⟨⟩))
      ⊢ wp frame (wpE (defs₀ (F := F)) Variants.none c none) E (cc0__loss_body i arg1 harg1 arg2 harg2 arg3 harg3 arg4 harg4 arg5 harg5 arg6 harg6) K := by
  simp only [cc0__loss_body_eq_skeleton]; unfold cc0__loss_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  have e := addBlock_congr ((load_block _ _).trans hf1) ((load_block _ _).trans hf2)
    ((load_acc _ _).trans hf4) ((load_acc _ _).trans hf5) ((load_acc _ _).trans hf6)
  sl_exec (disch := first | sl_exact hc1 | sl_exact hc2 | sl_exact hc3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact read_acc _ _ _ _ _ (congrArg Prod.fst e)
  isplitl [H5]
  · iexists _; isplitr; swap; · iexact H5
    ipureintro
    exact read_acc _ _ _ _ _ (congrArg (fun p : Acc F => p.2.1) e)
  iexists _; isplitr; swap; · iexact H6
  ipureintro
  exact read_acc _ _ _ _ _ (congrArg (fun p : Acc F => p.2.2) e)

set_option maxHeartbeats 1200000 in
/-- The first point: the body clears the accumulators and adds its block. -/
theorem run_first (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole)
    (hc1 : cond1 i) (hc2 : cond2 i) (hc3 : ¬cond3 i)
    (x y : Vec F S128x8192 .f32) (a : Acc F) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x ∗ owns (c : Thread nD τ) arg2 fullShare y ∗ owns (c : Thread nD τ) arg3 fullShare o
            ∗ owns (c : Thread nD τ) arg4 fullShare (addBlock x y cleared).1 ∗ owns (c : Thread nD τ) arg5 fullShare (addBlock x y cleared).2.1
            ∗ owns (c : Thread nD τ) arg6 fullShare (addBlock x y cleared).2.2) -∗ K ⟨⟩))
      ⊢ wp frame (wpE (defs₀ (F := F)) Variants.none c none) E (cc0__loss_body i arg1 harg1 arg2 harg2 arg3 harg3 arg4 harg4 arg5 harg5 arg6 harg6) K := by
  simp only [cc0__loss_body_eq_skeleton]; unfold cc0__loss_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  have e := addBlock_congr ((load_block _ _).trans hf1) ((load_block _ _).trans hf2)
    (load_stored arg4.view k0_pay1 [] (k0_pay1 (F := F)) rfl) (load_stored arg5.view k0_pay2 [] (k0_pay2 (F := F)) rfl)
    (load_stored arg6.view k0_pay3 [] (k0_pay3 (F := F)) rfl)
  sl_exec (disch := first | sl_exact hc1 | sl_exact hc2 | sl_exact hc3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact read_acc _ _ _ _ _ (congrArg Prod.fst e)
  isplitl [H5]
  · iexists _; isplitr; swap; · iexact H5
    ipureintro
    exact read_acc _ _ _ _ _ (congrArg (fun p : Acc F => p.2.1) e)
  iexists _; isplitr; swap; · iexact H6
  ipureintro
  exact read_acc _ _ _ _ _ (congrArg (fun p : Acc F => p.2.2) e)

set_option maxHeartbeats 1200000 in
/-- The last point: the body adds the masked block and writes the result from the accumulators. -/
theorem run_last (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole)
    (hc1 : ¬cond1 i) (hc2 : ¬cond2 i) (hc3 : cond3 i)
    (x y : Vec F S128x8192 .f32) (a : Acc F) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x ∗ owns (c : Thread nD τ) arg2 fullShare y
            ∗ owns (c : Thread nD τ) arg3 fullShare (finish (addLast (BitVec.ofNat 32 (i 0).val) x y a))
            ∗ owns (c : Thread nD τ) arg4 fullShare (addLast (BitVec.ofNat 32 (i 0).val) x y a).1
            ∗ owns (c : Thread nD τ) arg5 fullShare (addLast (BitVec.ofNat 32 (i 0).val) x y a).2.1
            ∗ owns (c : Thread nD τ) arg6 fullShare (addLast (BitVec.ofNat 32 (i 0).val) x y a).2.2) -∗ K ⟨⟩))
      ⊢ wp frame (wpE (defs₀ (F := F)) Variants.none c none) E (cc0__loss_body i arg1 harg1 arg2 harg2 arg3 harg3 arg4 harg4 arg5 harg5 arg6 harg6) K := by
  simp only [cc0__loss_body_eq_skeleton]; unfold cc0__loss_body_skel
  simp only [k0_part15_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  have e := addLast_congr (BitVec.ofNat 32 (i 0).val) ((load_block _ _).trans hf1) ((load_block _ _).trans hf2)
    ((load_acc _ _).trans hf4) ((load_acc _ _).trans hf5) ((load_acc _ _).trans hf6)
  sl_exec (disch := first | sl_exact hc1 | sl_exact hc2 | sl_exact hc3)
  sl_step
  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    exact read_result _ _ _ _ _ (finish_congr (load_stored arg4.view _ [] _ (congrArg Prod.fst e))
      (load_stored arg5.view _ [] _ (congrArg (fun p : Acc F => p.2.1) e))
      (load_stored arg6.view _ [] _ (congrArg (fun p : Acc F => p.2.2) e)))
  isplitl [H4]
  · iexists _; isplitr; swap; · iexact H4
    ipureintro
    exact read_acc _ _ _ _ _ (congrArg Prod.fst e)
  isplitl [H5]
  · iexists _; isplitr; swap; · iexact H5
    ipureintro
    exact read_acc _ _ _ _ _ (congrArg (fun p : Acc F => p.2.1) e)
  iexists _; isplitr; swap; · iexact H6
  ipureintro
  exact read_acc _ _ _ _ _ (congrArg (fun p : Acc F => p.2.2) e)

end Cert.KernelIdeal.Body

end
-- ==== Proof.Run.lean ====
/- The run of the kernel: what the accumulators hold point by point, the pipeline's proof data, the obligation of the body at every
   point, and the run of @main with its frame. The last block of either input overhangs its array: its staging buffer holds the block
   on the columns inside the array and anything past them, and the masks of the last point make the body ignore the rest. -/
module

public import proofs.«01_k».proof.Proof.Body
public import proofs.«01_k».proof.Proof.Gen.KernelIdeal.Points
public import Idealize.ShloMosaic.Lib.Pipeline.FrameBody
public import Idealize.ShloMosaic.Lib.Pipeline.FrameSuffix
public import Idealize.ShloMosaic.Lib.Pointwise
public import Idealize.ShloMosaic.Lib.WordCmp
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, and where they overhang -/

/-- The columns of the block of point `t` that lie inside the array. -/
def inside (t : ℕ) : ℕ := if t = 12 then 1696 else 8192

/-- A transfer of the teacher's block moves every row. -/
theorem xsize0_rows : ∀ t : Fin cfg0.N, win0_0.xsize (grid0.coords t) 0 = 128 :=
  (by decide +kernel : ∀ t : Fin grid0.N, win0_0.xsize (grid0.coords t) 0 = 128)
/-- A transfer of the teacher's block moves the columns inside the array. -/
theorem xsize0_cols : ∀ t : Fin cfg0.N, win0_0.xsize (grid0.coords t) 1 = inside t.val :=
  (by decide +kernel : ∀ t : Fin grid0.N, win0_0.xsize (grid0.coords t) 1 = inside t.val)
/-- A transfer of the student's block moves every row. -/
theorem xsize1_rows : ∀ t : Fin cfg0.N, win0_1.xsize (grid0.coords t) 0 = 128 :=
  (by decide +kernel : ∀ t : Fin grid0.N, win0_1.xsize (grid0.coords t) 0 = 128)
/-- A transfer of the student's block moves the columns inside the array. -/
theorem xsize1_cols : ∀ t : Fin cfg0.N, win0_1.xsize (grid0.coords t) 1 = inside t.val :=
  (by decide +kernel : ∀ t : Fin grid0.N, win0_1.xsize (grid0.coords t) 1 = inside t.val)

/-- A column of the block inside the array is moved by the transfer. -/
theorem moved0 (t : Fin cfg0.N) (j : S128x8192.Idx) : win0_0.moved (grid0.coords t) j = true ↔ (j 1).val < inside t.val := by
  rw [Window.moved_iff]
  constructor
  · intro h; have := h 1; rwa [xsize0_cols] at this
  · intro h a
    fin_cases a
    · show (j 0).val < win0_0.xsize (grid0.coords t) 0
      rw [xsize0_rows]; exact (j 0).isLt
    · show (j 1).val < win0_0.xsize (grid0.coords t) 1
      rw [xsize0_cols]; exact h
/-- The student's block likewise. -/
theorem moved1 (t : Fin cfg0.N) (j : S128x8192.Idx) : win0_1.moved (grid0.coords t) j = true ↔ (j 1).val < inside t.val := by
  rw [Window.moved_iff]
  constructor
  · intro h; have := h 1; rwa [xsize1_cols] at this
  · intro h a
    fin_cases a
    · show (j 0).val < win0_1.xsize (grid0.coords t) 0
      rw [xsize1_rows]; exact (j 0).isLt
    · show (j 1).val < win0_1.xsize (grid0.coords t) 1
      rw [xsize1_cols]; exact h

/-- What the teacher's staging buffer holds at point `t`, the columns past the array's end at zero. -/
def xs (c : Dev nD) (t : Fin cfg0.N) : Vec F S128x8192 .f32 :=
  win0_0.fill (grid0.coords t) (fun _ => Scalar.ofBits .f32 0#32) (iblk m c 0 t)
/-- The student's likewise. -/
def ys (c : Dev nD) (t : Fin cfg0.N) : Vec F S128x8192 .f32 :=
  win0_1.fill (grid0.coords t) (fun _ => Scalar.ofBits .f32 0#32) (iblk m c 1 t)

/-- On a column inside the array a staging buffer holds the block, whatever it holds past the end. -/
theorem fill0_inside (c : Dev nD) (t : Fin cfg0.N) (d : Vec F S128x8192 .f32) (j : S128x8192.Idx) (h : (j 1).val < inside t.val) :
    win0_0.fill (grid0.coords t) d (iblk m c 0 t) j = xs m c t j := by
  unfold xs Window.fill; rw [dif_pos ((moved0 t j).mpr h), dif_pos ((moved0 t j).mpr h)]
/-- The student's staging buffer likewise. -/
theorem fill1_inside (c : Dev nD) (t : Fin cfg0.N) (d : Vec F S128x8192 .f32) (j : S128x8192.Idx) (h : (j 1).val < inside t.val) :
    win0_1.fill (grid0.coords t) d (iblk m c 1 t) j = ys m c t j := by
  unfold ys Window.fill; rw [dif_pos ((moved1 t j).mpr h), dif_pos ((moved1 t j).mpr h)]

/-- Before the last point the whole block is inside. -/
theorem fill0_whole (c : Dev nD) (t : Fin cfg0.N) (ht : t.val < 12) (d : Vec F S128x8192 .f32) :
    win0_0.fill (grid0.coords t) d (iblk m c 0 t) = xs m c t :=
  funext fun j => fill0_inside m c t d j (by unfold inside; rw [if_neg (by omega)]; exact (j 1).isLt)
/-- The student's likewise. -/
theorem fill1_whole (c : Dev nD) (t : Fin cfg0.N) (ht : t.val < 12) (d : Vec F S128x8192 .f32) :
    win0_1.fill (grid0.coords t) d (iblk m c 1 t) = ys m c t :=
  funext fun j => fill1_inside m c t d j (by unfold inside; rw [if_neg (by omega)]; exact (j 1).isLt)

/-! ## The mask of the last point -/

/-- The mask of the last point, spread over the rows, holds exactly on the columns inside the array. -/
theorem mask_last (j : S128x8192.Idx) :
    broadcastTo S128x8192 (shapeCast S1x8192 (k0_pay23 12#32) shapeCasts_S1x8192_S1x8192) broadcasts_S1x8192_S128x8192 j = 1#1
      ↔ (j 1).val < 1696 := by
  have hj : (j 1).val < 8192 := (j 1).isLt
  pointwise [k0_pay23]
  generalize (j 1).val = n at hj ⊢
  have e : IntOp.addi (Scalar.muli 12#32 8192#32) (BitVec.ofNat 32 n) = BitVec.ofNat 32 (98304 + n) := by
    rw [BitVec.ofNat_add]; rfl
  rw [e]
  word_cmp

/-- Two selects under a mask agree where their first branches agree on the mask. -/
theorem select_congr {s : Shape} {α : Type} (c : IVec s 1) (x x' y : s.Idx → α) (h : ∀ j, c j = 1#1 → x j = x' j) :
    select c x y = select c x' y := by
  funext j; unfold select Scalar.select
  by_cases hc : c j = 1
  · rw [if_pos hc, if_pos hc, h j hc]
  · rw [if_neg hc, if_neg hc]

/-- Adding the last block reads the staging buffers only on the columns inside the array. -/
theorem addLast_inside {x x' y y' : Vec F S128x8192 .f32} (a : Acc F) (hx : ∀ j : S128x8192.Idx, (j 1).val < 1696 → x j = x' j)
    (hy : ∀ j : S128x8192.Idx, (j 1).val < 1696 → y j = y' j) : addLast 12#32 x y a = addLast 12#32 x' y' a := by
  have hm : ∀ j, broadcastTo S128x8192 (shapeCast S1x8192 (k0_pay23 12#32) shapeCasts_S1x8192_S1x8192) broadcasts_S1x8192_S128x8192 j = 1#1
      → (j 1).val < 1696 := fun j h => (mask_last j).mp h
  have h24 : k0_pay24 12#32 y = k0_pay24 12#32 y' := select_congr _ _ _ _ fun j h => hy j (hm j h)
  have h25 : k0_pay25 12#32 x = k0_pay25 12#32 x' := congrArg exp (select_congr _ _ _ _ fun j h => hx j (hm j h))
  unfold addLast k0_pay26 k0_pay27
  rw [h24, h25]

/-! ## The accumulators point by point -/

/-- The accumulators after point `n`. -/
def accAt (c : Dev nD) : (n : ℕ) → n < cfg0.N → Acc F
  | 0, h => addBlock (xs m c ⟨0, h⟩) (ys m c ⟨0, h⟩) cleared
  | n + 1, h =>
    if n + 1 < 12 then addBlock (xs m c ⟨n + 1, h⟩) (ys m c ⟨n + 1, h⟩) (accAt c n (Nat.lt_of_succ_lt h))
    else addLast 12#32 (xs m c ⟨n + 1, h⟩) (ys m c ⟨n + 1, h⟩) (accAt c n (Nat.lt_of_succ_lt h))

/-- The first point adds its block to cleared accumulators. -/
theorem accAt_first (c : Dev nD) (t : Fin cfg0.N) (h : t.val = 0) :
    accAt m c t.val t.isLt = addBlock (xs m c t) (ys m c t) cleared := by
  obtain ⟨n, hn⟩ := t; subst h; rfl
/-- A point between the first and the last adds its block to what the point before left. -/
theorem accAt_middle (c : Dev nD) (t : Fin cfg0.N) (h0 : t.val ≠ 0) (h : t.val < 12) :
    accAt m c t.val t.isLt = addBlock (xs m c t) (ys m c t) (accAt m c (t.val - 1) (Nat.lt_of_le_of_lt (Nat.sub_le _ _) t.isLt)) := by
  obtain ⟨n, hn⟩ := t
  cases n with
  | zero => exact absurd rfl h0
  | succ n => exact if_pos h
/-- The last point adds the part of its block inside the array. -/
theorem accAt_last (c : Dev nD) (t : Fin cfg0.N) (h : t.val = 12) :
    accAt m c t.val t.isLt = addLast 12#32 (xs m c t) (ys m c t) (accAt m c (t.val - 1) (Nat.lt_of_le_of_lt (Nat.sub_le _ _) t.isLt)) := by
  obtain ⟨n, hn⟩ := t
  cases n with
  | zero => simp at h
  | succ n => exact if_neg (by simp only at h; omega)

/-! ## The invariant and the proof data -/

/-- The first of the three accumulators, as a memref. -/
abbrev sc0 : Memref sig .tc .vmem S128x128 .f32 := Memref.whole cc0_scratch0
/-- The second. -/
abbrev sc1 : Memref sig .tc .vmem S128x128 .f32 := Memref.whole cc0_scratch1
/-- The third. -/
abbrev sc2 : Memref sig .tc .vmem S128x128 .f32 := Memref.whole cc0_scratch2

/-- The accumulators owned at `a`, and the generator register at some state. -/
def held (c : Dev nD) (a : Acc F) : sProp 𝕄 :=
  iprop(iprop(owns (c : Thread nD τ) sc0 fullShare a.1 ∗ owns (c : Thread nD τ) sc1 fullShare a.2.1 ∗ owns (c : Thread nD τ) sc2 fullShare a.2.2)
    ∗ (∃ r, prngReg c r))

/-- The region's own buffers at its entry: the accumulators at any contents. -/
theorem entry_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The invariant before point `n`: at the entry anything, then what the points before have added up. -/
def inv (c : Dev nD) : (n : ℕ) → n ≤ cfg0.N → sProp 𝕄
  | 0, _ => Pipeline.ΦA spec0 c
  | n + 1, h => held c (accAt m c n h)

/-- Before the first point the accumulators hold anything. -/
theorem inv_zero (c : Dev nD) (n : ℕ) (h : n ≤ cfg0.N) (hz : n = 0) : inv m c n h = Pipeline.ΦA spec0 c := by
  subst hz; rfl
/-- Before a later point they hold what the point before left. -/
theorem inv_pos (c : Dev nD) (n : ℕ) (h : n ≤ cfg0.N) (hz : n ≠ 0) : inv m c n h = held c (accAt m c (n - 1) (by omega)) := by
  cases n with
  | zero => exact absurd rfl hz
  | succ n => rfl

/-- The proof data: the arrays as the region finds them; the inputs' buffers left at their blocks, the result's at what the
    accumulators make; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xs m c t
    | ⟨1, _⟩ => ys m c t
    | ⟨2, _⟩ => finish (accAt m c t.val t.isLt)
  Φ t := inv m c t.val (Nat.le_of_lt_succ t.isLt)
  q _ := fullShare
  owed _ := 0

/-- The arrays of the proof data are those the region finds. -/
theorem A_eq (c : Dev nD) (w : Fin cfg0.W) : (dats m 0 c).A w = V m c (Pipeline.arrRef spec0 w) := by
  dsimp only [dats]
/-- The invariant before a point. -/
theorem inv_castSucc (c : Dev nD) (t : Fin cfg0.N) : (dats m 0 c).Φ t.castSucc = inv m c t.val (Nat.le_of_lt t.isLt) := by
  dsimp only [dats]; exact Pipeline.Dat.Φ_castSucc (inv m c) t
/-- The invariant after a point. -/
theorem inv_succ (c : Dev nD) (t : Fin cfg0.N) : (dats m 0 c).Φ t.succ = held c (accAt m c t.val t.isLt) := rfl
/-- The teacher's buffer after a point. -/
theorem after_0 (c : Dev nD) (t : Fin cfg0.N) : (dats m 0 c).after 0 t = xs m c t := by dsimp only [dats]
/-- The student's buffer after a point. -/
theorem after_1 (c : Dev nD) (t : Fin cfg0.N) : (dats m 0 c).after 1 t = ys m c t := by dsimp only [dats]
/-- The result's buffer after a point. -/
theorem after_2 (c : Dev nD) (t : Fin cfg0.N) : (dats m 0 c).after 2 t = finish (accAt m c t.val t.isLt) := by dsimp only [dats]

/-- The teacher's buffer before a point: the block over whatever was there. -/
theorem before_0 (c : Dev nD) (t : Fin cfg0.N) (d) : (dats m 0 c).before 0 t d = win0_0.fill (grid0.coords t) d (iblk m c 0 t) := by
  unfold Dat.before; rw [if_pos (fetch0_0 t)]; rfl
/-- The student's buffer before a point. -/
theorem before_1 (c : Dev nD) (t : Fin cfg0.N) (d) : (dats m 0 c).before 1 t d = win0_1.fill (grid0.coords t) d (iblk m c 1 t) := by
  unfold Dat.before; rw [if_pos (fetch0_1 t)]; rfl

/-- Before the last point the result's window is idle and nothing is written back; at the last it is live. -/
theorem idle_2 : ∀ t : Fin cfg0.N, t.val < 12 → cfg0.idle 2 (grid0.coords t) = true :=
  (by decide +kernel : ∀ t : Fin grid0.N, t.val < 12 → idle0 2 (grid0.coords t) = true)
/-- At the last point the result's window is live. -/
theorem live_2 : ∀ t : Fin cfg0.N, t.val = 12 → cfg0.idle 2 (grid0.coords t) = false :=
  (by decide +kernel : ∀ t : Fin grid0.N, t.val = 12 → idle0 2 (grid0.coords t) = false)
/-- Before the last point nothing of the result is written back. -/
theorem noFlush_2 (t : Fin cfg0.N) (h : t.val < 12) : (cfg0.win 2).flush t = false := by
  rw [← Bool.not_eq_true, flush0_2]; omega

/-- The grid coordinate of the last point. -/
theorem coord_last : ∀ t : Fin cfg0.N, t.val = 12 → (grid0.coords t 0).val = 12 :=
  (by decide +kernel : ∀ t : Fin grid0.N, t.val = 12 → (grid0.coords t 0).val = 12)

/-- What the inputs' windows are to be left at: their blocks inside the array, anything past it. -/
theorem leaves_0 (c : Dev nD) (t : Fin cfg0.N) (d : Vec F S128x8192 .f32) :
    owns (c : Thread nD τ) (win0_0.stage (cfg0.slots t 0)) fullShare (win0_0.fill (grid0.coords t) d (iblk m c 0 t))
      ⊢ ((dats m 0 c).leaves 0 t : sProp 𝕄) := by
  have h : win0_0.cut (grid0.coords t) (xs m c t) = iblk m c 0 t := win0_0.cut_fill _ _ _
  rw [show ((dats m 0 c).leaves 0 t : sProp 𝕄) = iprop(∃ d, owns (c : Thread nD τ) (win0_0.stage (cfg0.slots t 0)) fullShare
    (win0_0.fill (grid0.coords t) d (win0_0.cut (grid0.coords t) (xs m c t)))) from rfl, h]
  iintro H; iexists d; iexact H
/-- The student's buffer likewise. -/
theorem leaves_1 (c : Dev nD) (t : Fin cfg0.N) (d : Vec F S128x8192 .f32) :
    owns (c : Thread nD τ) (win0_1.stage (cfg0.slots t 1)) fullShare (win0_1.fill (grid0.coords t) d (iblk m c 1 t))
      ⊢ ((dats m 0 c).leaves 1 t : sProp 𝕄) := by
  have h : win0_1.cut (grid0.coords t) (ys m c t) = iblk m c 1 t := win0_1.cut_fill _ _ _
  rw [show ((dats m 0 c).leaves 1 t : sProp 𝕄) = iprop(∃ d, owns (c : Thread nD τ) (win0_1.stage (cfg0.slots t 1)) fullShare
    (win0_1.fill (grid0.coords t) d (win0_1.cut (grid0.coords t) (ys m c t)))) from rfl, h]
  iintro H; iexists d; iexact H

/-- At the last point the result's window is to be left at the result. -/
theorem leaves_2 (c : Dev nD) (t : Fin cfg0.N) (h : t.val = 12) :
    ((dats m 0 c).leaves 2 t : sProp 𝕄)
      = owns (c : Thread nD τ) (win0_2.stage (cfg0.slots t 2)) fullShare (finish (accAt m c t.val t.isLt)) := by
  unfold Dat.leaves; rw [live_2 t h]; rfl

/-! ## The body's obligation -/

set_option maxHeartbeats 1200000 in
/-- The body at any point: the first clears and adds, the middle points add, the last adds under the masks and stores the result. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leaves 0 t ∗ (dats m 0 c).leaves 1 t ∗ (dats m 0 c).leaves 2 t)) := by
  unfold bodyAt0
  simp only [before_0, before_1]
  rw [show (dats m 0 c).owesAt () t.succ = (dats m 0 c).owesAt () t.castSucc from rfl, inv_castSucc, inv_succ]
  have hN : t.val < 13 := lt_of_lt_of_eq t.isLt (show cfg0.N = 13 from N_0)
  by_cases hl : t.val < 12
  · rw [Dat.leaves_idle (dats m 0 c) 2 t (idle_2 t hl) (noFlush_2 t hl)]
    by_cases hz : t.val = 0
    · rw [inv_zero m c _ _ hz, entry_eq]
      iintro ⟨⟨⟨⟨%e0, HS0⟩, ⟨%e1, HS1⟩, ⟨%e2, HS2⟩⟩, Hg⟩, Ho, ⟨%d0, H0⟩, ⟨%d1, H1⟩, ⟨%d2, H2⟩⟩
      iapply (run_first c (grid0.coords t) _ _ _ _ _ _ _ _ _ _ _ _ ((cond1_iff t).mpr hz) ((cond2_iff t).mpr hl)
        (fun h => by have := (cond3_iff t).mp h; omega) _ _ (e0, e1, e2) _ Set.univ _)
      isplitl [H0]; · iexact H0
      isplitl [H1]; · iexact H1
      isplitl [H2]; · iexact H2
      isplitl [HS0]; · iexact HS0
      isplitl [HS1]; · iexact HS1
      isplitl [HS2]; · iexact HS2
      rw [accAt_first m c t hz, fill0_whole m c t hl d0, fill1_whole m c t hl d1]
      iintro ⟨H0, H1, H2, HS0, HS1, HS2⟩
      isplitl [HS0 HS1 HS2 Hg]
      · unfold held
        isplitl [HS0 HS1 HS2]
        · isplitl [HS0]; · iexact HS0
          isplitl [HS1]; · iexact HS1
          iexact HS2
        iexact Hg
      isplitl [Ho]; · iexact Ho
      rw [← fill0_whole m c t hl d0, ← fill1_whole m c t hl d1]
      isplitl [H0]; · iapply (leaves_0 m c t d0); iexact H0
      isplitl [H1]; · iapply (leaves_1 m c t d1); iexact H1
      iexists d2; iexact H2
    · rw [inv_pos m c _ _ hz]; unfold held
      iintro ⟨⟨⟨HS0, HS1, HS2⟩, Hg⟩, Ho, ⟨%d0, H0⟩, ⟨%d1, H1⟩, ⟨%d2, H2⟩⟩
      iapply (run_middle c (grid0.coords t) _ _ _ _ _ _ _ _ _ _ _ _ (fun h => hz ((cond1_iff t).mp h)) ((cond2_iff t).mpr hl)
        (fun h => by have := (cond3_iff t).mp h; omega) _ _ (accAt m c (t.val - 1) (Nat.lt_of_le_of_lt (Nat.sub_le _ _) t.isLt)) _ Set.univ _)
      isplitl [H0]; · iexact H0
      isplitl [H1]; · iexact H1
      isplitl [H2]; · iexact H2
      isplitl [HS0]; · iexact HS0
      isplitl [HS1]; · iexact HS1
      isplitl [HS2]; · iexact HS2
      rw [accAt_middle m c t hz hl, fill0_whole m c t hl d0, fill1_whole m c t hl d1]
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      rw [← fill0_whole m c t hl d0, ← fill1_whole m c t hl d1]
      isplitl [H0]; · iapply (leaves_0 m c t d0); iexact H0
      isplitl [H1]; · iapply (leaves_1 m c t d1); iexact H1
      iexists d2; iexact H2
  · have h12 : t.val = 12 := by omega
    have hw : BitVec.ofNat 32 (grid0.coords t 0).val = 12#32 := by rw [coord_last t h12]
    have hins : ∀ j : S128x8192.Idx, (j 1).val < 1696 → (j 1).val < inside t.val := fun j hj => by unfold inside; rw [if_pos h12]; exact hj
    rw [leaves_2 m c t h12]
    rw [inv_pos m c _ _ (by omega)]; unfold held
    iintro ⟨⟨⟨HS0, HS1, HS2⟩, Hg⟩, Ho, ⟨%d0, H0⟩, ⟨%d1, H1⟩, ⟨%d2, H2⟩⟩
    iapply (run_last c (grid0.coords t) _ _ _ _ _ _ _ _ _ _ _ _ (fun h => by have := (cond1_iff t).mp h; omega) (fun h => hl ((cond2_iff t).mp h))
      ((cond3_iff t).mpr h12) _ _ (accAt m c (t.val - 1) (Nat.lt_of_le_of_lt (Nat.sub_le _ _) t.isLt)) _ Set.univ _)
    isplitl [H0]; · iexact H0
    isplitl [H1]; · iexact H1
    isplitl [H2]; · iexact H2
    isplitl [HS0]; · iexact HS0
    isplitl [HS1]; · iexact HS1
    isplitl [HS2]; · iexact HS2
    rw [accAt_last m c t h12, hw, addLast_inside (accAt m c (t.val - 1) (Nat.lt_of_le_of_lt (Nat.sub_le _ _) t.isLt))
      (fun j hj => fill0_inside m c t d0 j (hins j hj)) (fun j hj => fill1_inside m c t d1 j (hins j hj))]
    iintro ⟨H0, H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iapply (leaves_0 m c t d0); iexact H0
    isplitl [H1]; · iapply (leaves_1 m c t d1); iexact H1
    iexact H2

/-- The body table's row at point `t`'s slots is the body as it is called. -/
theorem table_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligationLoose (dats (F := F) m 0 c) (defs₀ (F := F)) Variants.none () Set.univ := fun t => by
  rw [bigSep_W0, bigSep_W0, table_row]
  exact triple_restated (sound_body m c t) rfl .rfl fun _ => .rfl

/-! ## The run and the frame -/

/-- What the launch hands the region is the invariant before the first point, -/
theorem entry (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- and the invariant after the last gives it back. -/
theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 13 := N_0; omega), entry_eq]
  unfold held
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

-- the launch theorem's implicit arguments are found by unifying its conclusion with this one, which takes unfolding plain
-- definitions in a metavariable's type
set_option backward.isDefEq.respectTransparency.types false in
set_option maxHeartbeats 800000 in
/-- From any memory with zero counters every weakly fair execution of @main terminates, with every array of the pipeline at what the
    proof data computes, every other buffer as the lines after the region leave it, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := entry m) (hout := leave m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Compiled.lean ====
/- The compiled program and the one read over the extended reals are one text: no operation was rewritten. What is proved of the
   second at any number type therefore holds of the first at machine floats. -/
module

public import proofs.«01_k».proof.Proof.Run
public import proofs.«01_k».proof.Defs
public import proofs.«01_k».proof.Proof.Gen.Kernel

@[expose] public section

set_option maxRecDepth 16384

noncomputable section

namespace Cert.Proof

open Idealize.ShloMosaic

/-- The two programs have the same kernel bodies. -/
theorem bodies_eq {F : FTy → Type} [FloatOps F] : Cert.Kernel.defs₀ (F := F) = Cert.KernelIdeal.defs₀ (F := F) := by
  refine congrArg Defs.onTc ?_
  funext l a
  match l, a with
  | 0, (t, s) => rfl

/-- The two programs have the same procedures. -/
theorem defs_eq {F : FTy → Type} [FloatOps F] : Cert.Kernel.defs (F := F) = Cert.KernelIdeal.defs (F := F) :=
  congrArg (Pipeline.defs Cert.KernelIdeal.pcfgs) bodies_eq

/-- The two programs have the same main procedure. -/
theorem main_eq {F : FTy → Type} [FloatOps F] : Cert.Kernel.main (F := F) = Cert.KernelIdeal.main (F := F) := rfl

/-- The compiled program runs to the end, leaves its arguments as they were and every counter at zero. -/
theorem frame_kernel : @Cert.quiescent_Kernel Cert.Kernel.Gen.facts := fun m g _ => by
  rw [defs_eq, main_eq]
  exact Cert.KernelIdeal.Body.frame_holds (F := Bits) m g

end Cert.Proof

end
-- ==== Proof.Fold.lean ====
/- What the accumulators hold over the extended reals: a block is folded into them lane by lane, sixty-four columns to a lane. -/
module

public import proofs.«01_k».proof.Proof.Run

@[expose] public section

set_option maxRecDepth 16384

noncomputable section

namespace Cert.KernelIdeal.Body

open Cert.KernelIdeal Cert.KernelIdeal.Gen
open Idealize.ShloMosaic

/-- A block of 128 columns fits in the block of 8192 at any of the sixty-four places. -/
theorem lane_slice (n : ℕ) (h : n < 64) : S128x8192.Slices (![0, 128 * n] : Fin 2 → ℕ) S128x128 := by
  refine ⟨rfl, fun a => ?_⟩
  fin_cases a
  · exact Nat.le_of_eq rfl
  · show 128 * n + 128 ≤ 8192
    omega

/-- The sum of the first `n + 1` slices of 128 columns, added from the left. -/
def lanes {F : FTy → Type} [FloatOps F] (v : FVec F S128x8192 .f32) : (n : ℕ) → n < 64 → FVec F S128x128 .f32
  | 0, h => extractStridedSlice S128x128 ![0, 128 * 0] v (lane_slice 0 h)
  | n + 1, h => addf (lanes v n (Nat.lt_of_succ_lt h)) (extractStridedSlice S128x128 ![0, 128 * (n + 1)] v (lane_slice (n + 1) h))

/-- One accumulator after a block `v` is folded into `a`. -/
def folded {F : FTy → Type} [FloatOps F] (v : FVec F S128x8192 .f32) (a : FVec F S128x128 .f32) : FVec F S128x128 .f32 :=
  shapeCast S128x128 (addf a (lanes v 63 (by omega))) shapeCasts_S128x128_S128x128

/-- The fold of a whole block, all three accumulators. -/
theorem addBlock_folded {F : FTy → Type} [FloatOps F] (x y : Vec F S128x8192 .f32) (a : Acc F) :
    addBlock x y a = (folded (k0_pay5 x) a.1, folded (k0_pay11 y (k0_pay5 x)) a.2.1, folded (k0_pay17 y) a.2.2) := rfl

/-- The fold of the last block, all three accumulators. -/
theorem addLast_folded {F : FTy → Type} [FloatOps F] (w : BitVec 32) (x y : Vec F S128x8192 .f32) (a : Acc F) :
    addLast w x y a = (folded (k0_pay25 w x) a.1, folded (k0_pay31 (k0_pay24 w y) (k0_pay25 w x)) a.2.1,
      folded (k0_pay37 (k0_pay23 w) (k0_pay24 w y)) a.2.2) := rfl

/-- Entry `(r, k)` of a block, `0` past its last column. -/
def col (v : FVec Ideal S128x8192 .f32) (r : Fin 128) (k : ℕ) : EReal := if h : k < 8192 then v (ix2 r ⟨k, h⟩) else 0

/-- A slice of 128 columns at an entry. -/
theorem slice_col (v : FVec Ideal S128x8192 .f32) (n : ℕ) (h : n < 64) (r : Fin 128) (l : Fin 128) :
    extractStridedSlice S128x128 ![0, 128 * n] v (lane_slice n h) (ix2 r l) = col v r (128 * n + l.val) := by
  unfold col
  rw [dif_pos (by omega)]
  pointwise

/-- The left-to-right sum of the slices at an entry. -/
theorem lanes_col (v : FVec Ideal S128x8192 .f32) (n : ℕ) (h : n < 64) (r : Fin 128) (l : Fin 128) :
    lanes v n h (ix2 r l) = ∑ g ∈ Finset.range (n + 1), col v r (128 * g + l.val) := by
  induction n with
  | zero => rw [Finset.sum_range_one]; exact slice_col v 0 h r l
  | succ n ih =>
    rw [Finset.sum_range_succ, ← ih (Nat.lt_of_succ_lt h), ← slice_col v (n + 1) h r l]
    rfl

/-- The fold at an entry. -/
theorem folded_col (v : FVec Ideal S128x8192 .f32) (a : FVec Ideal S128x128 .f32) (r : Fin 128) (l : Fin 128) :
    folded v a (ix2 r l) = a (ix2 r l) + ∑ g ∈ Finset.range 64, col v r (128 * g + l.val) := by
  rw [← lanes_col v 63 (by omega) r l]
  unfold folded
  pointwise

end Cert.KernelIdeal.Body

end
-- ==== Proof.Blocks.lean ====
/- The accumulators in terms of the argument arrays: after the last point the lanes of a row sum to the row's sums over all columns,
   and the result is read off those. -/
module

public import proofs.«01_k».proof.Proof.Fold
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Window)

variable (m : (ℓ : Loc nD τ sig) → Buf (Elt Ideal) ℓ)

/-- The columns inside the array are columns of the array. -/
theorem inside_lt (t : Fin cfg0.N) (k : ℕ) (h : k < inside t.val) : 8192 * t.val + k < 100000 := by
  have : t.val < 13 := lt_of_lt_of_eq t.isLt (show cfg0.N = 13 from N_0)
  unfold inside at h
  split at h <;> omega

/-- The teacher's scores. -/
abbrev teacher (c : Dev nD) : S128x100000.Idx → EReal := m ((c.tc : Thread nD τ).loc main_arg1)
/-- The student's scores. -/
abbrev student (c : Dev nD) : S128x100000.Idx → EReal := m ((c.tc : Thread nD τ).loc main_arg2)

/-- The teacher's block of point `t` starts at column `8192 t`. -/
theorem start0 : ∀ t : Fin cfg0.N, win0_0.index t = ![0, t.val] :=
  (by decide +kernel : ∀ t : Fin grid0.N, win0_0.index t = ![0, t.val])

/-- A column inside the array of the teacher's block at point `t`. -/
theorem xs_inside (c : Dev nD) (t : Fin cfg0.N) (r : Fin 128) (k : ℕ) (hk : k < 8192) (h : k < inside t.val) :
    xs m c t (ix2 r ⟨k, hk⟩) = teacher m c (ix2 r ⟨8192 * t.val + k, inside_lt t k h⟩) := by
  unfold xs Window.fill
  rw [dif_pos ((moved0 t _).mpr h)]
  blk_simp [iblk]
  refine congrArg (m ((c.tc : Thread nD τ).loc main_arg1)) ?_
  blk_ext [start0]

/-- The student's block of point `t` starts at column `8192 t`. -/
theorem start1 : ∀ t : Fin cfg0.N, win0_1.index t = ![0, t.val] :=
  (by decide +kernel : ∀ t : Fin grid0.N, win0_1.index t = ![0, t.val])

/-- A column inside the array of the student's block at point `t`. -/
theorem ys_inside (c : Dev nD) (t : Fin cfg0.N) (r : Fin 128) (k : ℕ) (hk : k < 8192) (h : k < inside t.val) :
    ys m c t (ix2 r ⟨k, hk⟩) = student m c (ix2 r ⟨8192 * t.val + k, inside_lt t k h⟩) := by
  unfold ys Window.fill
  rw [dif_pos ((moved1 t _).mpr h)]
  blk_simp [iblk]
  refine congrArg (m ((c.tc : Thread nD τ).loc main_arg2)) ?_
  blk_ext [start1]

/-! ## One entry of what a block adds -/

/-- A row's exponentials by column, `0` past the last column. -/
def expAt (X : S128x100000.Idx → EReal) (r : Fin 128) (k : ℕ) : EReal :=
  if h : k < 100000 then Ideal.exp (X (ix2 r ⟨k, h⟩)) else 0

/-- A row's products of the teacher's exponential and the student's score by column, `0` past the last column. -/
def prodAt (X Y : S128x100000.Idx → EReal) (r : Fin 128) (k : ℕ) : EReal :=
  if h : k < 100000 then Ideal.exp (X (ix2 r ⟨k, h⟩)) * Y (ix2 r ⟨k, h⟩) else 0

/-- Before the last point every column of the block is inside the array. -/
theorem inside_whole (t : Fin cfg0.N) (ht : t.val < 12) (k : ℕ) (hk : k < 8192) : k < inside t.val := by
  unfold inside; rw [if_neg (by omega)]; exact hk

/-- What a whole block adds to the first accumulator. -/
theorem block_exp (c : Dev nD) (t : Fin cfg0.N) (ht : t.val < 12) (r : Fin 128) (k : ℕ) (hk : k < 8192) :
    col (k0_pay5 (xs m c t)) r k = expAt (teacher m c) r (8192 * t.val + k) := by
  have hi := inside_whole t ht k hk
  unfold col expAt
  rw [dif_pos hk, dif_pos (inside_lt t k hi), ← xs_inside m c t r k hk hi]
  rfl

/-- What a whole block adds to the second. -/
theorem block_prod (c : Dev nD) (t : Fin cfg0.N) (ht : t.val < 12) (r : Fin 128) (k : ℕ) (hk : k < 8192) :
    col (k0_pay11 (ys m c t) (k0_pay5 (xs m c t))) r k = prodAt (teacher m c) (student m c) r (8192 * t.val + k) := by
  have hi := inside_whole t ht k hk
  unfold col prodAt
  rw [dif_pos hk, dif_pos (inside_lt t k hi), ← xs_inside m c t r k hk hi, ← ys_inside m c t r k hk hi]
  rfl

/-- What a whole block adds to the third. -/
theorem block_exp_student (c : Dev nD) (t : Fin cfg0.N) (ht : t.val < 12) (r : Fin 128) (k : ℕ) (hk : k < 8192) :
    col (k0_pay17 (ys m c t)) r k = expAt (student m c) r (8192 * t.val + k) := by
  have hi := inside_whole t ht k hk
  unfold col expAt
  rw [dif_pos hk, dif_pos (inside_lt t k hi), ← ys_inside m c t r k hk hi]
  rfl

/-- A select under the last point's mask, at an entry. -/
theorem masked_apply {α : Type} (x y : S128x8192.Idx → α) (r : Fin 128) (k : Fin 8192) :
    select (broadcastTo S128x8192 (shapeCast S1x8192 (k0_pay23 12#32) shapeCasts_S1x8192_S1x8192) broadcasts_S1x8192_S128x8192) x y (ix2 r k)
      = if k.val < 1696 then x (ix2 r k) else y (ix2 r k) := by
  unfold select Scalar.select
  exact if_congr (mask_last (ix2 r k)) rfl rfl

/-- The last block's columns inside the array. -/
theorem inside_last (t : Fin cfg0.N) (ht : t.val = 12) (k : ℕ) : k < inside t.val ↔ k < 1696 := by
  unfold inside; rw [if_pos ht]

/-- The literal the masked scores take is `⊥`. -/
theorem lowest : Ideal.ofBits .f32 0xFF800000#32 = ⊥ := by simp [Ideal.ofBits, Ideal.ieee]

/-- What the last block, masked, adds to the first accumulator. -/
theorem last_exp (c : Dev nD) (t : Fin cfg0.N) (ht : t.val = 12) (r : Fin 128) (k : ℕ) (hk : k < 8192) :
    col (k0_pay25 12#32 (xs m c t)) r k = expAt (teacher m c) r (8192 * t.val + k) := by
  unfold col expAt
  rw [dif_pos hk]
  refine (congrArg Ideal.exp (masked_apply _ _ r ⟨k, hk⟩)).trans ?_
  by_cases h : k < 1696
  · have hi := (inside_last t ht k).mpr h
    rw [if_pos h, dif_pos (inside_lt t k hi), ← xs_inside m c t r k hk hi]
  · rw [if_neg h, dif_neg (by omega)]
    pointwise [lowest, Ideal.exp_bot, zero_mul]

/-- What the last block, masked, adds to the second. -/
theorem last_prod (c : Dev nD) (t : Fin cfg0.N) (ht : t.val = 12) (r : Fin 128) (k : ℕ) (hk : k < 8192) :
    col (k0_pay31 (k0_pay24 12#32 (ys m c t)) (k0_pay25 12#32 (xs m c t))) r k = prodAt (teacher m c) (student m c) r (8192 * t.val + k) := by
  unfold col prodAt
  rw [dif_pos hk]
  refine (congrArg₂ (fun a b : EReal => Ideal.exp a * b) (masked_apply _ _ r ⟨k, hk⟩) (masked_apply _ _ r ⟨k, hk⟩)).trans ?_
  by_cases h : k < 1696
  · have hi := (inside_last t ht k).mpr h
    rw [if_pos h, if_pos h, dif_pos (inside_lt t k hi), ← xs_inside m c t r k hk hi, ← ys_inside m c t r k hk hi]
  · rw [if_neg h, if_neg h, dif_neg (by omega)]
    pointwise [lowest, Ideal.exp_bot, zero_mul]

/-- What the last block, masked, adds to the third. -/
theorem last_exp_student (c : Dev nD) (t : Fin cfg0.N) (ht : t.val = 12) (r : Fin 128) (k : ℕ) (hk : k < 8192) :
    col (k0_pay37 (k0_pay23 12#32) (k0_pay24 12#32 (ys m c t))) r k = expAt (student m c) r (8192 * t.val + k) := by
  unfold col expAt
  rw [dif_pos hk]
  refine (masked_apply _ _ r ⟨k, hk⟩).trans ?_
  by_cases h : k < 1696
  · have hi := (inside_last t ht k).mpr h
    rw [if_pos h, dif_pos (inside_lt t k hi), ← ys_inside m c t r k hk hi]
    exact congrArg Ideal.exp ((masked_apply _ _ r ⟨k, hk⟩).trans (if_pos h))
  · rw [if_neg h, dif_neg (by omega)]
    pointwise

/-! ## The accumulators after a point -/

/-- What the points up to `n` add to lane `l` of an accumulator that takes `f` by column. -/
def laneSum (f : ℕ → EReal) (n : ℕ) (l : ℕ) : EReal :=
  ∑ t ∈ Finset.range (n + 1), ∑ g ∈ Finset.range 64, f (8192 * t + (128 * g + l))

/-- One more point. -/
theorem laneSum_succ (f : ℕ → EReal) (n l : ℕ) :
    laneSum f (n + 1) l = laneSum f n l + ∑ g ∈ Finset.range 64, f (8192 * (n + 1) + (128 * g + l)) :=
  Finset.sum_range_succ _ _

/-- An accumulator at the first point: what the block adds to zero. -/
theorem folded_first (v : FVec Ideal S128x8192 .f32) (a : FVec Ideal S128x128 .f32) (f : ℕ → EReal) (r l : Fin 128)
    (ha : a (ix2 r l) = 0) (hv : ∀ k, k < 8192 → col v r k = f (8192 * 0 + k)) : folded v a (ix2 r l) = laneSum f 0 l.val := by
  rw [folded_col, ha, zero_add]
  unfold laneSum
  rw [Finset.sum_range_one]
  exact Finset.sum_congr rfl fun g hg => hv _ (by have := Finset.mem_range.mp hg; omega)

/-- An accumulator at a later point: what the block adds to the points before. -/
theorem folded_next (v : FVec Ideal S128x8192 .f32) (a : FVec Ideal S128x128 .f32) (f : ℕ → EReal) (n : ℕ) (r l : Fin 128)
    (ha : a (ix2 r l) = laneSum f n l.val) (hv : ∀ k, k < 8192 → col v r k = f (8192 * (n + 1) + k)) :
    folded v a (ix2 r l) = laneSum f (n + 1) l.val := by
  rw [folded_col, ha, laneSum_succ]
  exact congrArg _ (Finset.sum_congr rfl fun g hg => hv _ (by have := Finset.mem_range.mp hg; omega))

/-- The three accumulators after point `n`, at an entry. -/
theorem accAt_apply (c : Dev nD) (r l : Fin 128) (n : ℕ) (h : n < cfg0.N) :
    (accAt m c n h).1 (ix2 r l) = laneSum (expAt (teacher m c) r) n l.val
    ∧ (accAt m c n h).2.1 (ix2 r l) = laneSum (prodAt (teacher m c) (student m c) r) n l.val
    ∧ (accAt m c n h).2.2 (ix2 r l) = laneSum (expAt (student m c) r) n l.val := by
  induction n with
  | zero =>
    rw [show accAt m c 0 h = addBlock (xs m c ⟨0, h⟩) (ys m c ⟨0, h⟩) cleared from rfl, addBlock_folded]
    refine ⟨folded_first _ _ _ r l ?_ (block_exp m c ⟨0, h⟩ (Nat.zero_lt_succ 11) r), folded_first _ _ _ r l ?_ (block_prod m c ⟨0, h⟩ (Nat.zero_lt_succ 11) r),
      folded_first _ _ _ r l ?_ (block_exp_student m c ⟨0, h⟩ (Nat.zero_lt_succ 11) r)⟩
    all_goals unfold cleared; pointwise [k0_pay1, k0_pay2, k0_pay3]
  | succ n ih =>
    obtain ⟨h0, h1, h2⟩ := ih (Nat.lt_of_succ_lt h)
    have hN : n + 1 < 13 := lt_of_lt_of_eq h (show cfg0.N = 13 from N_0)
    by_cases hn : n + 1 < 12
    · rw [show accAt m c (n + 1) h = addBlock (xs m c ⟨n + 1, h⟩) (ys m c ⟨n + 1, h⟩) (accAt m c n (Nat.lt_of_succ_lt h)) from if_pos hn,
        addBlock_folded]
      exact ⟨folded_next _ _ _ n r l h0 (block_exp m c ⟨n + 1, h⟩ hn r), folded_next _ _ _ n r l h1 (block_prod m c ⟨n + 1, h⟩ hn r),
        folded_next _ _ _ n r l h2 (block_exp_student m c ⟨n + 1, h⟩ hn r)⟩
    · have he : n + 1 = 12 := by omega
      rw [show accAt m c (n + 1) h = addLast 12#32 (xs m c ⟨n + 1, h⟩) (ys m c ⟨n + 1, h⟩) (accAt m c n (Nat.lt_of_succ_lt h)) from if_neg hn,
        addLast_folded]
      exact ⟨folded_next _ _ _ n r l h0 (last_exp m c ⟨n + 1, h⟩ he r), folded_next _ _ _ n r l h1 (last_prod m c ⟨n + 1, h⟩ he r),
        folded_next _ _ _ n r l h2 (last_exp_student m c ⟨n + 1, h⟩ he r)⟩

/-! ## The lanes of a row together -/

/-- A sum over `a` groups of `b` is one sum. -/
theorem sum_groups (f : ℕ → EReal) (a b : ℕ) :
    ∑ i ∈ Finset.range a, ∑ j ∈ Finset.range b, f (b * i + j) = ∑ k ∈ Finset.range (b * a), f k := by
  induction a with
  | zero => rfl
  | succ a ih => rw [Finset.sum_range_succ, ih, Nat.mul_succ, Finset.sum_range_add]

/-- The lanes of a row after the last point sum to the row's sum over all columns. -/
theorem sum_lanes (f : ℕ → EReal) (hf : ∀ k, 100000 ≤ k → f k = 0) :
    ∑ l : Fin 128, laneSum f 12 l.val = ∑ j : Fin 100000, f j.val := by
  rw [Fin.sum_univ_eq_sum_range (fun l => laneSum f 12 l) 128, Fin.sum_univ_eq_sum_range f 100000]
  unfold laneSum
  rw [Finset.sum_comm]
  have e : ∀ t, ∑ l ∈ Finset.range 128, ∑ g ∈ Finset.range 64, f (8192 * t + (128 * g + l))
      = ∑ k ∈ Finset.range 8192, f (8192 * t + k) := fun t => by
    rw [Finset.sum_comm]; exact sum_groups (fun k => f (8192 * t + k)) 64 128
  rw [Finset.sum_congr rfl fun t _ => e t, sum_groups f 13 8192, show 8192 * 13 = 100000 + 6496 from rfl, Finset.sum_range_add,
    Finset.sum_eq_zero fun k _ => hf (100000 + k) (by omega), add_zero]

/-- A row's loss, up to sign, from its sums: the mean student score under the teacher's weights, less the student's normaliser. -/
def rowK (X Y : S128x100000.Idx → EReal) (r : Fin 128) : EReal :=
  Ideal.div (∑ j : Fin 100000, Ideal.exp (X (ix2 r j)) * Y (ix2 r j)) (∑ j : Fin 100000, Ideal.exp (X (ix2 r j)))
    - Ideal.log (∑ j : Fin 100000, Ideal.exp (Y (ix2 r j)))

/-- The result from the accumulators. -/
theorem finish_apply (a : Acc Ideal) (j : S1x1.Idx) :
    finish a j = 0 - Ideal.div (∑ r : Fin 128, (Ideal.div (∑ l : Fin 128, a.2.1 (ix2 r l)) (∑ l : Fin 128, a.1 (ix2 r l))
      - Ideal.log (∑ l : Fin 128, a.2.2 (ix2 r l)))) (Ideal.ofBits .f32 0x43000000#32) := by
  pointwise [finish, k0_pay4, k0_pay41]
  simp only [Fin.sum_univ_one, Finset.univ_unique, Finset.sum_singleton]

/-- A row's exponential at one of its columns. -/
theorem expAt_fin (X : S128x100000.Idx → EReal) (r : Fin 128) (j : Fin 100000) : expAt X r j.val = Ideal.exp (X (ix2 r j)) :=
  dif_pos j.isLt
/-- A row's product at one of its columns. -/
theorem prodAt_fin (X Y : S128x100000.Idx → EReal) (r : Fin 128) (j : Fin 100000) :
    prodAt X Y r j.val = Ideal.exp (X (ix2 r j)) * Y (ix2 r j) := dif_pos j.isLt

/-- The result from the argument arrays. -/
theorem finish_rows (c : Dev nD) (h : 12 < cfg0.N) (j : S1x1.Idx) :
    finish (accAt m c 12 h) j
      = 0 - Ideal.div (∑ r : Fin 128, rowK (teacher m c) (student m c) r) (Ideal.ofBits .f32 0x43000000#32) := by
  rw [finish_apply]
  refine congrArg (fun z : EReal => 0 - Ideal.div z _) (Finset.sum_congr rfl fun r _ => ?_)
  unfold rowK
  rw [Finset.sum_congr rfl fun l _ => (accAt_apply m c r l 12 h).1, Finset.sum_congr rfl fun l _ => (accAt_apply m c r l 12 h).2.1,
    Finset.sum_congr rfl fun l _ => (accAt_apply m c r l 12 h).2.2,
    sum_lanes _ fun k hk => dif_neg (by omega), sum_lanes _ fun k hk => dif_neg (by omega), sum_lanes _ fun k hk => dif_neg (by omega)]
  simp only [expAt_fin, prodAt_fin]

end Cert.KernelIdeal.Body

end
-- ==== Proof.Row.lean ====
/- One row of the loss, in the extended reals: the reference's weighted sum of the logarithms of the student's softmax is the kernel's
   quotient of sums less the logarithm of a sum. -/
module

public import proofs.«01_k».proof.Proof.Blocks

@[expose] public section

noncomputable section

namespace Cert.Row

open Idealize.ShloMosaic

variable {ι : Type} [Fintype ι] [DecidableEq ι]

/-- The exponential of a score as a real number; that of the lowest score is zero. -/
def expR (x : EReal) : ℝ := if x = ⊥ then 0 else Real.exp x.toReal

/-- The exponential of the lowest score. -/
theorem expR_bot : expR ⊥ = 0 := if_pos rfl

/-- The exponential of a real score. -/
theorem expR_coe (r : ℝ) : expR (r : EReal) = Real.exp r := by
  unfold expR
  rw [if_neg (EReal.coe_ne_bot r), EReal.toReal_coe]

/-- An exponential is not negative. -/
theorem expR_nonneg (x : EReal) : 0 ≤ expR x := by
  unfold expR
  split
  · exact le_rfl
  · exact (Real.exp_pos _).le

/-- The exponential of a score that is not the lowest is positive. -/
theorem expR_pos {x : EReal} (h : x ≠ ⊥) : 0 < expR x := by
  unfold expR
  rw [if_neg h]
  exact Real.exp_pos _

/-- The exponential of a score below the highest, as a real number. -/
theorem exp_eq {x : EReal} (h : x ≠ ⊤) : Ideal.exp x = (expR x : EReal) := by
  induction x using EReal.rec with
  | bot => rw [expR_bot, Ideal.exp_bot]; rfl
  | coe r => rw [expR_coe, Ideal.exp_coe]
  | top => exact absurd rfl h

/-- A score less a real number has the exponential scaled. -/
theorem exp_shift {x : EReal} (h : x ≠ ⊤) (μ : ℝ) : Ideal.exp (x - (μ : EReal)) = ((expR x * Real.exp (-μ) : ℝ) : EReal) := by
  induction x using EReal.rec with
  | bot => rw [EReal.bot_sub, expR_bot, Ideal.exp_bot, zero_mul]; rfl
  | coe r => rw [← EReal.coe_sub, Ideal.exp_coe, expR_coe, ← Real.exp_add, sub_eq_add_neg]
  | top => exact absurd rfl h

/-- A sum of real numbers in the extended reals. -/
theorem sum_coe (f : ι → ℝ) : ∑ j, (f j : EReal) = ((∑ j, f j : ℝ) : EReal) := by
  induction (Finset.univ : Finset ι) using Finset.induction_on with
  | empty => simp
  | insert a s ha ih => rw [Finset.sum_insert ha, Finset.sum_insert ha, ih, EReal.coe_add]

/-- A sum with a term at the lowest is the lowest. -/
theorem sum_bot (f : ι → EReal) (a : ι) (h : f a = ⊥) : ∑ j, f j = ⊥ := by
  rw [← Finset.add_sum_erase _ _ (Finset.mem_univ a), h, EReal.bot_add]

/-- A sum of terms above the lowest, one of them the highest, is the highest. -/
theorem sum_top (f : ι → EReal) (a : ι) (h : f a = ⊤) (hb : ∀ j, 0 ≤ f j) : ∑ j, f j = ⊤ := by
  rw [← Finset.add_sum_erase _ _ (Finset.mem_univ a), h]
  refine EReal.top_add_of_ne_bot fun e => ?_
  have : (0 : EReal) ≤ ∑ x ∈ Finset.univ.erase a, f x := Finset.sum_nonneg fun j _ => hb j
  rw [e] at this
  exact absurd this (by simp)

/-- An exponential is not negative, at the highest score too. -/
theorem exp_nonneg (x : EReal) : 0 ≤ Ideal.exp x := by
  by_cases h : x = ⊤
  · rw [h, Ideal.exp_top]; exact le_top
  · rw [exp_eq h]; exact EReal.coe_nonneg.mpr (expR_nonneg x)

/-- The greatest of a row. -/
def top (s : ι → EReal) : EReal := Finset.univ.fold max ⊥ s

/-- The greatest is at least each entry. -/
theorem le_top (s : ι → EReal) (j : ι) : s j ≤ top s :=
  (Finset.le_fold_max _).mpr (Or.inr ⟨j, Finset.mem_univ j, le_rfl⟩)

/-- The greatest is below the highest where every entry is. -/
theorem top_ne_top {s : ι → EReal} (h : ∀ j, s j ≠ ⊤) : top s ≠ ⊤ :=
  ne_of_lt ((Finset.fold_max_lt _).mpr ⟨bot_lt_top, fun j _ => lt_top_iff_ne_top.mpr (h j)⟩)

/-- The greatest is the highest where some entry is. -/
theorem top_eq_top {s : ι → EReal} (a : ι) (h : s a = ⊤) : top s = ⊤ := top_le_iff.mp (h ▸ le_top s a)

/-- The greatest is a real number where no entry is the highest and some entry is not the lowest. -/
theorem top_real {s : ι → EReal} (h : ∀ j, s j ≠ ⊤) (a : ι) (ha : s a ≠ ⊥) : ∃ μ : ℝ, top s = μ :=
  ⟨(top s).toReal, (EReal.coe_toReal (top_ne_top h) fun e => ha (le_bot_iff.mp (e ▸ le_top s a))).symm⟩

/-- The sum of the exponentials is positive where some entry is not the lowest. -/
theorem sum_expR_pos {s : ι → EReal} (a : ι) (ha : s a ≠ ⊥) : 0 < ∑ j, expR (s j) :=
  Finset.sum_pos' (fun j _ => expR_nonneg _) ⟨a, Finset.mem_univ a, expR_pos ha⟩

/-- The row as the kernel computes it. -/
def quotient (t s : ι → EReal) : EReal :=
  Ideal.div (∑ j, Ideal.exp (t j) * s j) (∑ j, Ideal.exp (t j)) - Ideal.log (∑ j, Ideal.exp (s j))

/-- The row as the reference computes it. -/
def weighted (t s : ι → EReal) : EReal :=
  ∑ j, Ideal.div (Ideal.exp (t j - top t)) (∑ k, Ideal.exp (t k - top t)) * (s j - top s - Ideal.log (∑ k, Ideal.exp (s k - top s)))

/-- The teacher's softmax as real numbers. -/
theorem share_eq {t : ι → EReal} (h : ∀ j, t j ≠ ⊤) (a : ι) (ha : t a ≠ ⊥) (j : ι) :
    Ideal.div (Ideal.exp (t j - top t)) (∑ k, Ideal.exp (t k - top t)) = ((expR (t j) / ∑ k, expR (t k) : ℝ) : EReal) := by
  obtain ⟨μ, hμ⟩ := top_real h a ha
  have hW := sum_expR_pos a ha
  have he := Real.exp_pos (-μ)
  simp only [hμ, exp_shift (h _)]
  rw [sum_coe, ← Finset.sum_mul, Ideal.div_coe (mul_pos hW he).ne', ← EReal.coe_mul]
  congr 1
  field_simp

/-- The logarithm of the sum of the student's shifted exponentials. -/
theorem log_shift {s : ι → EReal} (h : ∀ j, s j ≠ ⊤) (a : ι) (ha : s a ≠ ⊥) (μ : ℝ) :
    Ideal.log (∑ k, Ideal.exp (s k - (μ : EReal))) = ((Real.log (∑ k, expR (s k)) - μ : ℝ) : EReal) := by
  have hE := sum_expR_pos a ha
  have he := Real.exp_pos (-μ)
  simp only [exp_shift (h _)]
  rw [sum_coe, ← Finset.sum_mul, Ideal.log_coe, if_neg (not_le.mpr (mul_pos hE he)), Real.log_mul hE.ne' he.ne', Real.log_exp, sub_eq_add_neg]

/-- The logarithm of the sum of the student's exponentials. -/
theorem log_sum {s : ι → EReal} (h : ∀ j, s j ≠ ⊤) (a : ι) (ha : s a ≠ ⊥) :
    Ideal.log (∑ k, Ideal.exp (s k)) = ((Real.log (∑ k, expR (s k)) : ℝ) : EReal) := by
  simp only [exp_eq (h _)]
  rw [sum_coe, Ideal.log_coe, if_neg (not_le.mpr (sum_expR_pos a ha))]

/-- A row where some student's score is the highest: both are the lowest. -/
theorem row_top {t s : ι → EReal} (h : ∀ j, t j ≠ ⊤) (a : ι) (ha : t a ≠ ⊥) (b : ι) (hb : s b = ⊤) : weighted t s = quotient t s := by
  have hq : quotient t s = ⊥ := by
    unfold quotient
    rw [sum_top (fun j => Ideal.exp (s j)) b (by simp only [hb, Ideal.exp_top]) fun j => exp_nonneg _, Ideal.log_top, EReal.sub_top]
  rw [hq]
  refine sum_bot _ a ?_
  rw [share_eq h a ha, top_eq_top b hb, EReal.sub_top, EReal.bot_sub,
    EReal.coe_mul_bot_of_pos (div_pos (expR_pos ha) (sum_expR_pos a ha))]

/-- A row where some student's score is the lowest and the teacher's is not: both are the lowest. -/
theorem row_bot {t s : ι → EReal} (h : ∀ j, t j ≠ ⊤) (b : ι) (ha : t b ≠ ⊥) (hb : s b = ⊥) : weighted t s = quotient t s := by
  have hw : weighted t s = ⊥ := by
    refine sum_bot _ b ?_
    rw [share_eq h b ha, hb, EReal.bot_sub, EReal.bot_sub,
      EReal.coe_mul_bot_of_pos (div_pos (expR_pos ha) (sum_expR_pos b ha))]
  rw [hw]
  unfold quotient
  rw [sum_bot (fun j => Ideal.exp (t j) * s j) b (by
    simp only [hb, exp_eq (h b)]
    exact EReal.coe_mul_bot_of_pos (expR_pos ha))]
  simp only [exp_eq (h _)]
  rw [sum_coe, Ideal.div_coe (sum_expR_pos b ha).ne', EReal.bot_mul_coe_of_pos (one_div_pos.mpr (sum_expR_pos b ha)), EReal.bot_sub]

/-- A row where every score that counts is a real number. -/
theorem row_real {t s : ι → EReal} (h : ∀ j, t j ≠ ⊤) (a : ι) (ha : t a ≠ ⊥) (hs : ∀ j, s j ≠ ⊤) (hc : ∀ j, t j ≠ ⊥ → s j ≠ ⊥) :
    weighted t s = quotient t s := by
  obtain ⟨μ, hμ⟩ := top_real hs a (hc a ha)
  have hW := sum_expR_pos a ha
  have hprod : ∀ j, Ideal.exp (t j) * s j = ((expR (t j) * (s j).toReal : ℝ) : EReal) := by
    intro j
    rw [exp_eq (h j)]
    by_cases ht : t j = ⊥
    · rw [ht, expR_bot, zero_mul, EReal.coe_zero, zero_mul]
    · rw [EReal.coe_mul, EReal.coe_toReal (hs j) (hc j ht)]
  have hterm : ∀ j, Ideal.div (Ideal.exp (t j - top t)) (∑ k, Ideal.exp (t k - top t)) * (s j - top s - Ideal.log (∑ k, Ideal.exp (s k - top s)))
      = ((expR (t j) / (∑ k, expR (t k)) * ((s j).toReal - Real.log (∑ k, expR (s k))) : ℝ) : EReal) := by
    intro j
    rw [share_eq h a ha, hμ, log_shift hs a (hc a ha)]
    by_cases ht : t j = ⊥
    · rw [ht, expR_bot, zero_div, zero_mul, EReal.coe_zero, zero_mul]
    · have e : s j = (((s j).toReal : ℝ) : EReal) := (EReal.coe_toReal (hs j) (hc j ht)).symm
      rw [e, ← EReal.coe_sub, ← EReal.coe_sub, ← EReal.coe_mul, EReal.toReal_coe]
      congr 1
      ring
  unfold weighted quotient
  simp only [hterm, hprod]
  rw [log_sum hs a (hc a ha)]
  simp only [exp_eq (h _)]
  rw [sum_coe, sum_coe, sum_coe, Ideal.div_coe hW.ne', ← EReal.coe_mul, ← EReal.coe_sub]
  congr 1
  simp only [mul_sub, Finset.sum_sub_distrib, ← Finset.sum_mul, ← Finset.sum_div]
  rw [div_self hW.ne', one_mul, Finset.sum_mul]
  congr 1
  exact Finset.sum_congr rfl fun j _ => by ring

/-- The two rows agree where the teacher's greatest score is a real number. -/
theorem row_eq {t s : ι → EReal} (h : ∀ j, t j ≠ ⊤) (a : ι) (ha : t a ≠ ⊥) : weighted t s = quotient t s := by
  by_cases h1 : ∃ b, s b = ⊤
  · obtain ⟨b, hb⟩ := h1
    exact row_top h a ha b hb
  by_cases h2 : ∃ b, t b ≠ ⊥ ∧ s b = ⊥
  · obtain ⟨b, hb, hb'⟩ := h2
    exact row_bot h b hb hb'
  exact row_real h a ha (fun j e => h1 ⟨j, e⟩) fun j hj e => h2 ⟨j, hj, e⟩

/-- The kernel's row does not depend on the order of the columns. -/
theorem quotient_perm (t s : ι → EReal) (σ : Equiv.Perm ι) : quotient (fun j => t (σ j)) (fun j => s (σ j)) = quotient t s := by
  unfold quotient
  rw [Equiv.sum_comp σ fun j => Ideal.exp (t j) * s j, Equiv.sum_comp σ fun j => Ideal.exp (t j), Equiv.sum_comp σ fun j => Ideal.exp (s j)]

end Cert.Row

end
-- ==== Proof.Value.lean ====
/- The kernel's result array after the run: the loss of the argument arrays, row by row. -/
module

public import proofs.«01_k».proof.Proof.Blocks
public import proofs.«01_k».proof.Proof.Row

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The loss from the argument arrays. -/
def lossK (c : Dev nD) : EReal :=
  0 - Ideal.div (∑ r : Fin 128, Row.quotient (fun j : Fin 100000 => teacher m c (ix2 r j)) (fun j => student m c (ix2 r j)))
    (Ideal.ofBits .f32 0x43000000#32)

/-- A row of the kernel is a quotient of sums less a logarithm. -/
theorem rowK_eq (X Y : S128x100000.Idx → EReal) (r : Fin 128) :
    rowK X Y r = Row.quotient (fun j : Fin 100000 => X (ix2 r j)) (fun j => Y (ix2 r j)) := rfl

/-- The result's array after the last point. -/
theorem result_array (c : Dev nD) : (dats m 0 c).arrAt 2 cfg0.N = fun _ => lossK m c := by
  refine (dats m 0 c).arrAt_eq_of_after_last 2 t0_12 (by decide +kernel) _ fun j => ?_
  blk_simp
  rw [after_2]
  refine (finish_rows m c _ _).trans ?_
  rfl

/-- The result as a scalar, after the reshape. -/
theorem result_scalar (c : Dev nD) :
    Pipeline.afterTail₀ cfgs (dats m) 0 (V0 m) [hostOps1] c main_v1 = fun _ => lossK m c := by
  have h : Pipeline.withArrays (τ := τ) (Val := Elt Ideal) spec0 c (V0 m c) (fun w => (dats m 0 c).arrAt w cfg0.N) (Proc.devRef .tc main_v0)
      = fun _ => lossK m c := (Pipeline.withArrays_arr spec0 (by decide) c (V0 m c) _ 2).trans (result_array m c)
  unfold Pipeline.afterTail₀
  show (StableHlo.reshape (τ := τ) (Val := Elt Ideal) main_v0 main_v1 (rfl : (.f32 : EltTy) = .f32) shapeCasts_S1x1_S_).result
    (Pipeline.withArrays (τ := τ) (Val := Elt Ideal) spec0 c (V0 m c) fun w => (dats m 0 c).arrAt w cfg0.N) (Proc.devRef .tc main_v1) = _
  refine (StableHlo.reshape_result main_v0 main_v1 _ _ _ _ _).trans ?_
  funext i
  exact congrFun (congrArg (fun x : S1x1.Idx → EReal => shapeCast S_ x shapeCasts_S1x1_S_) h) i

/-- The kernel's run with its result. -/
theorem run_value : θ_run defs (onTc (τ := τ) (main (F := Ideal))) ⟨m, fun _ => 0, ρ⟩ (fun r => ∀ c : Dev nD,
      r.2.mem ((c.tc : Thread nD τ).loc main_v1) = (fun _ => lossK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v1 (Pipeline.mem_restRefs_of main_v1 (by decide) (by decide))).trans (result_scalar m c), h.2.1 c⟩)
    (θ_run_and (run_main m ρ) (frame_holds m ρ))

end Cert.KernelIdeal.Body

end
-- ==== Proof.Reference.lean ====
/- The reference's run: its operations composed, in steps with names, and its frame. -/
module

public import proofs.«01_k».proof.ReferenceIdeal
public import proofs.«01_k».proof.Proof.Gen.ReferenceIdeal
public import proofs.«01_k».proof.Proof.Gen.ReferenceIdeal.Run
public import Idealize.ShloMosaic.Lib.Claim
public import Idealize.ShloMosaic.Lib.Pointwise

@[expose] public section

set_option maxRecDepth 16384

noncomputable section

namespace Cert.ReferenceIdeal.Steps

open Cert.ReferenceIdeal Cert.ReferenceIdeal.Gen
open Idealize.ShloMosaic Idealize.SL.Sem

variable {F : FTy → Type} [FloatOps F]

/-- The columns of each row in decreasing order of the scores. -/
def order (x : FVec F S128x100000 .f32) : IVec S128x100000 32 :=
  (Host.sort2 S128x100000 1 comparator_f32_i32_d1 (Host.negf x) (iotaInDim S128x100000 32 1)).2

/-- The first fifty columns of the order and the rest, put together again. -/
def rejoined (i : IVec S128x100000 32) : IVec S128x100000 32 :=
  concatenate S128x100000 1 [⟨S128x50, extractStridedSlice S128x50 ![0, 0] i slices_S128x100000_S128x50_0_0⟩,
    ⟨S128x99950, extractStridedSlice S128x99950 ![0, 50] i slices_S128x100000_S128x99950_0_50⟩]
    concatenates_S128x50_S128x99950_S128x100000_d1

/-- A negative index counted from the end, as a column of its own. -/
def wrapped (i : IVec S128x100000 32) : IVec S128x100000x1 32 :=
  shapeCast S128x100000x1 (select (cmpi .slt i (broadcastInDim S128x100000 ![] bcast_S_S128x100000 (constantI S_ 32 0#32)))
    (addi i (broadcastInDim S128x100000 ![] bcast_S_S128x100000 (constantI S_ 32 100000#32))) i) shapeCasts_S128x100000_S128x100000x1

/-- Which indices lie in the row. -/
def inRow (k : IVec S128x100000x1 32) : IVec S128x100000 1 :=
  Host.reduce IntOp.andi
    (andi (cmpi .sge k (broadcastInDim S128x100000x1 ![] bcast_S_S128x100000x1 (constantI S_ 32 0#32)))
      (cmpi .sle k (broadcastInDim S128x100000x1 ![0, 1, 2] bcast_S1x1x1_S128x100000x1_0_1_2
        (broadcastInDim S1x1x1 ![2] bcast_S1_S1x1x1_2 (constantI S1 32 99999#32)))))
    (constantI S_ 1 1#1) reducesTo_S128x100000x1_S128x100000_d2 h_S_

/-- Each row read at the indices `i`. -/
def taken (x : FVec F S128x100000 .f32) (i : IVec S128x100000 32) : FVec F S128x100000 .f32 :=
  select (inRow (wrapped i)) (Host.gather gather_S128x100000_S128x100000x1_S128x100000_n_1_0_0_1_2_11 x (wrapped i))
    (broadcastInDim S128x100000 ![] bcast_S_S128x100000 (constant S_ .f32 0x7FC00000#32))

/-- The scores over the temperature. -/
def tempered (x : FVec F S128x100000 .f32) : FVec F S128x100000 .f32 :=
  Host.divf x (broadcastInDim S128x100000 ![] bcast_S_S128x100000 (constant S_ .f32 0x3F800000#32))

/-- A value per row over the row. -/
def spread (x : FVec F S128x1 .f32) : FVec F S128x100000 .f32 :=
  broadcastInDim S128x100000 ![0, 1] bcast_S128x1_S128x100000_0_1 x

/-- A value per row as a column. -/
def column (x : FVec F S128 .f32) : FVec F S128x1 .f32 := broadcastInDim S128x1 ![0] bcast_S128_S128x1_0 x

/-- The greatest score of each row. -/
def rowMax (x : FVec F S128x100000 .f32) : FVec F S128 .f32 :=
  maximumf (broadcastInDim S128 ![] bcast_S_S128 (constant S_ .f32 0xFF800000#32))
    (Host.reduce FloatOps.maximumf x (constant S_ .f32 0xFF800000#32) reducesTo_S128x100000_S128_d1 h_S_)

/-- The scores less the greatest of their row. -/
def shifted (x : FVec F S128x100000 .f32) : FVec F S128x100000 .f32 := subf x (spread (column (rowMax x)))

/-- The sum of each row. -/
def rowSum (x : FVec F S128x100000 .f32) : FVec F S128 .f32 :=
  Host.reduceAdd x (constant S_ .f32 0x00000000#32) reducesTo_S128x100000_S128_d1 h_S_

/-- The softmax of each row. -/
def softmax (x : FVec F S128x100000 .f32) : FVec F S128x100000 .f32 :=
  Host.divf (Host.exp (shifted x)) (spread (column (rowSum (Host.exp (shifted x)))))

/-- The logarithm of the softmax of each row. -/
def logSoftmax (x : FVec F S128x100000 .f32) : FVec F S128x100000 .f32 :=
  subf (shifted x) (spread (Host.log (column (rowSum (Host.exp (shifted x))))))

/-- The loss of teacher scores `x` and student scores `y`, taken in the order `i`. -/
def loss (x y : FVec F S128x100000 .f32) (i : IVec S128x100000 32) : FVec F S_ .f32 :=
  Host.negf (Host.divf (Host.reduceAdd (rowSum (mulf (softmax (tempered (taken x i))) (logSoftmax (tempered (taken y i)))))
    (constant S_ .f32 0x00000000#32) reducesTo_S128_S_d0 h_S_) (constant S_ .f32 0x43000000#32))

variable (m : (ℓ : Loc nD τ sig) → Buf (Elt F) ℓ) (ρ : Dev nD → PrngReg)

set_option maxHeartbeats 4000000 in
/-- The reference's composed term is these steps. -/
theorem result_steps (c : Dev nD) : Value.res_out0 m c
    = loss (m ((c.tc : Thread nD τ).loc main_arg1)) (m ((c.tc : Thread nD τ).loc main_arg2)) (rejoined (order (m ((c.tc : Thread nD τ).loc main_arg1)))) := by
  rfl

end Cert.ReferenceIdeal.Steps

end
-- ==== Proof.Order.lean ====
/- The order the reference takes: it is a permutation of each row's columns, and taking a row along it reads the row at the
   permuted column. -/
module

public import proofs.«01_k».proof.Proof.Reference
public import Idealize.ShloMosaic.Lib.SortFacts
public import Idealize.ShloMosaic.Lib.WordCmp
public import Idealize.ShloMosaic.Lib.ReduceAll
public import Idealize.ShloMosaic.Lib.Affine

@[expose] public section

set_option maxRecDepth 16384

noncomputable section

namespace Cert.ReferenceIdeal.Steps

open Cert.ReferenceIdeal Cert.ReferenceIdeal.Gen
open Idealize.ShloMosaic Idealize.SL.Sem

/-- Moving an entry along its row. -/
theorem along_row (r : Fin 128) (j k : Fin 100000) :
    Shape.Idx.along (s := S128x100000) (ix2 r j) (⟨1, Nat.one_lt_two⟩ : Fin S128x100000.rank) k = ix2 r k := by
  funext a
  unfold Shape.Idx.along
  match a with
  | ⟨0, _⟩ => rfl
  | ⟨1, _⟩ => rfl

/-- The order is, in each row, a permutation of the columns. -/
theorem order_perm (x : FVec Ideal S128x100000 .f32) : ∃ σ : Fin 128 → Equiv.Perm (Fin 100000),
    ∀ (r : Fin 128) (j : Fin 100000), order x (ix2 r j) = BitVec.ofNat 32 (σ r j).val := by
  have h : ∀ r : Fin 128, ∃ f : Equiv.Perm (Fin 100000), ∀ j : Fin 100000, order x (ix2 r j) = BitVec.ofNat 32 (f j).val := by
    intro r
    let before : Fin 100000 → Fin 100000 → Bool := fun k k' =>
      comparator_f32_i32_d1 (F := Ideal) (Host.negf x (ix2 r k), iotaInDim S128x100000 32 1 (ix2 r k))
        (Host.negf x (ix2 r k'), iotaInDim S128x100000 32 1 (ix2 r k')) == 1#1
    refine ⟨Equiv.ofBijective (sortedFrom before) ⟨sortedFrom_injective before, sortedFrom_surjective before⟩, fun j => ?_⟩
    show order x (ix2 r j) = BitVec.ofNat 32 (sortedFrom before j).val
    unfold order Host.sort2
    rw [dif_pos (show 1 < S128x100000.rank by decide)]
    dsimp only
    refine (congrArg (iotaInDim S128x100000 32 1) (along_row r j _)).trans ?_
    refine congrArg (fun b => BitVec.ofNat 32 (sortedFrom b j).val) (funext fun k => funext fun k' => ?_)
    exact congrArg₂ (fun p p' : S128x100000.Idx => comparator_f32_i32_d1 (F := Ideal) (Host.negf x p, iotaInDim S128x100000 32 1 p)
      (Host.negf x p', iotaInDim S128x100000 32 1 p') == 1#1) (along_row r j k) (along_row r j k')
  choose σ hσ using h
  exact ⟨σ, hσ⟩

/-- Cutting the order at column fifty and joining the halves gives it back. -/
theorem rejoined_eq (i : IVec S128x100000 32) : rejoined i = i := by
  funext j
  obtain ⟨r, k, rfl⟩ : ∃ r k, j = ix2 r k := ⟨j 0, j 1, by funext a; match a with | ⟨0, _⟩ => rfl | ⟨1, _⟩ => rfl⟩
  pointwise [rejoined]
  split
  · rfl
  · refine congrArg (fun q => i (ix2 r q)) (Fin.ext ?_)
    show 50 + (k.val - 50) = k.val
    omega

/-- A column of the order lies in the row, so counting from the end does not arise. -/
theorem wrapped_apply (i : IVec S128x100000 32) (r : Fin 128) (j k : Fin 100000) (h : i (ix2 r j) = BitVec.ofNat 32 k.val) :
    wrapped i (ix3 r j 0) = BitVec.ofNat 32 k.val := by
  pointwise [wrapped, h]
  rw [show IntOp.cmpi CmpIPredicate.slt (BitVec.ofNat 32 k.val) 0#32 = 0#1 from by
    have hk := k.isLt
    word_cmp]
  rfl

/-- Every start index of the order lies in the row. -/
theorem inRow_apply (w : IVec S128x100000x1 32) (r : Fin 128) (j k : Fin 100000) (h : w (ix3 r j 0) = BitVec.ofNat 32 k.val) :
    inRow w (ix2 r j) = 1#1 := by
  unfold inRow
  pointwise
  have hk := k.isLt
  have h0 : (Finset.univ : Finset (Fin 1)) = {0} := rfl
  rw [h0, Finset.fold_singleton, h]
  rw [show IntOp.cmpi CmpIPredicate.sge (BitVec.ofNat 32 k.val) 0#32 = 1#1 from by word_cmp,
    show IntOp.cmpi CmpIPredicate.sle (BitVec.ofNat 32 k.val) 99999#32 = 1#1 from by word_cmp]
  rfl

/-- The gather reads its operand's row at the start index. -/
theorem gather_apply (x : FVec Ideal S128x100000 .f32) (w : IVec S128x100000x1 32) (r : Fin 128) (j k : Fin 100000)
    (h : w (ix3 r j 0) = BitVec.ofNat 32 k.val) :
    Host.gather gather_S128x100000_S128x100000x1_S128x100000_n_1_0_0_1_2_11 x w (ix2 r j) = x (ix2 r k) := by
  have hk := k.isLt
  have hw : min (BitVec.ofNat 32 k.val).toInt.toNat (100000 - 1) = k.val := by
    have : (BitVec.ofNat 32 k.val).toInt = k.val := by
      rw [BitVec.toInt_eq_toNat_of_lt] <;> rw [BitVec.toNat_ofNat] <;> omega
    rw [this]
    omega
  have hs : ∀ c, GatherDims.siIdx gather_S128x100000_S128x100000x1_S128x100000_n_1_0_0_1_2_11 (ix2 r j) c = ix3 r j 0 := by
    intro c
    funext b
    match b with
    | ⟨0, _⟩ => rfl
    | ⟨1, _⟩ => rfl
    | ⟨2, _⟩ => exact Subsingleton.elim (α := Fin 1) _ _
  refine congrArg x (funext fun a => Fin.ext ?_)
  match a with
  | ⟨0, _⟩ =>
    show GatherDims.start gather_S128x100000_S128x100000x1_S128x100000_n_1_0_0_1_2_11 (ix2 r j) w 0 + r.val + 0 = r.val
    rw [GatherDims.start_batching _ _ _ _ (by decide)]
    omega
  | ⟨1, _⟩ =>
    show GatherDims.start gather_S128x100000_S128x100000x1_S128x100000_n_1_0_0_1_2_11 (ix2 r j) w 1 + 0 + 0 = k.val
    unfold GatherDims.start
    rw [dif_pos (by decide), hs, h]
    exact hw

/-- Taking along the order reads each row at the permuted column. -/
theorem taken_apply (x : FVec Ideal S128x100000 .f32) (i : IVec S128x100000 32) (r : Fin 128) (j k : Fin 100000)
    (h : i (ix2 r j) = BitVec.ofNat 32 k.val) : taken x i (ix2 r j) = x (ix2 r k) := by
  have hw := wrapped_apply i r j k h
  unfold taken
  show Scalar.select (inRow (wrapped i) (ix2 r j)) (Host.gather _ x (wrapped i) (ix2 r j)) _ = _
  rw [inRow_apply _ r j k hw, gather_apply x _ r j k hw]
  rfl

end Cert.ReferenceIdeal.Steps

end
-- ==== Proof.RefValue.lean ====
/- The reference's result in terms of the argument arrays, and its run. -/
module

public import proofs.«01_k».proof.Proof.Order
public import proofs.«01_k».proof.Proof.Row
public import Idealize.ShloMosaic.Lib.Quiescent

@[expose] public section

set_option maxRecDepth 16384

noncomputable section

namespace Cert.ReferenceIdeal.Steps

open Cert.ReferenceIdeal Cert.ReferenceIdeal.Gen
open Idealize.ShloMosaic Idealize.SL.Sem

/-- The bits of the lowest number. -/
theorem lowest_bits : Ideal.ofBits .f32 0xFF800000#32 = ⊥ := by simp [Ideal.ofBits, Ideal.ieee]
/-- The bits of one. -/
theorem one_bits : Ideal.ofBits .f32 0x3F800000#32 = 1 := by
  simp [Ideal.ofBits, Ideal.ieee]
  rw [← EReal.coe_mul]
  norm_num
/-- The bits of zero. -/
theorem zero_bits : Ideal.ofBits .f32 0x00000000#32 = 0 := by simp [Ideal.ofBits, Ideal.ieee]

/-- The greatest of each row of a matrix. -/
theorem reduce_max_row {n m : ℕ} (x : FVec Ideal ⟨2, ![n, m]⟩ .f32) (init : FVec Ideal S_ .f32)
    (h' : (⟨2, ![n, m]⟩ : Shape).ReducesTo [1] ⟨1, ![n]⟩) (h : (⟨2, ![n, m]⟩ : Shape).Reduces [1] ⟨1, ![n]⟩) (hu : 0 < S_.numel)
    (r : Fin n) :
    Host.reduce FloatOps.maximumf x init h' hu (ix1 r) = Finset.univ.fold max (init (Shape.Idx.first hu)) fun j : Fin m => x (ix2 r j) := by
  rw [Host.reduce_eq_fold_single _ x init h' h hu]
  refine congrArg (fun f : Fin m → EReal => Finset.univ.fold max (init (Shape.Idx.first hu)) f) (funext fun k => congrArg x (funext fun a => ?_))
  match a with
  | ⟨0, _⟩ => exact Fin.ext (h.lift_val _ _ _)
  | ⟨1, _⟩ => exact Fin.ext (h.lift_val _ _ _)

/-- The rows of the score matrix reduce to a vector. -/
theorem rows_reduce : S128x100000.Reduces [1] S128 := by decide

/-- The pointwise maximum. -/
theorem max_apply {s : Shape} (a b : FVec Ideal s .f32) (j : s.Idx) : maximumf a b j = max (a j) (b j) := rfl

/-- A constant over a vector. -/
theorem constant_over (b : BitVec 32) (r : Fin 128) :
    (broadcastInDim S128 ![] bcast_S_S128 (constant (F := Ideal) S_ .f32 b)) (ix1 r) = Ideal.ofBits .f32 b := rfl

/-- The greatest of a row. -/
theorem rowMax_apply (x : FVec Ideal S128x100000 .f32) (r : Fin 128) : rowMax x (ix1 r) = Row.top fun j : Fin 100000 => x (ix2 r j) := by
  have e := reduce_max_row x (constant S_ .f32 0xFF800000#32) reducesTo_S128x100000_S128_d1 rows_reduce h_S_ r
  have e2 : (constant (F := Ideal) S_ .f32 0xFF800000#32) (Shape.Idx.first h_S_) = Ideal.ofBits .f32 0xFF800000#32 := rfl
  rw [e2, lowest_bits] at e
  unfold rowMax
  rw [max_apply, constant_over, lowest_bits, e]
  exact max_eq_right bot_le

/-- A temperature of one leaves the scores. -/
theorem tempered_eq (x : FVec Ideal S128x100000 .f32) : tempered x = x := by
  funext j
  pointwise [tempered, one_bits]
  rw [← EReal.coe_one, Ideal.div_coe one_ne_zero, div_one, EReal.coe_one, mul_one]

/-- The sum of a row. -/
theorem rowSum_apply (x : FVec Ideal S128x100000 .f32) (r : Fin 128) : rowSum x (ix1 r) = ∑ j : Fin 100000, x (ix2 r j) := by
  pointwise [rowSum, zero_bits]

/-- A score less the greatest of its row. -/
theorem shifted_apply (x : FVec Ideal S128x100000 .f32) (r : Fin 128) (j : Fin 100000) :
    shifted x (ix2 r j) = x (ix2 r j) - Row.top fun j : Fin 100000 => x (ix2 r j) := by
  pointwise [shifted, spread, column]
  rw [rowMax_apply]

/-- The softmax at an entry. -/
theorem softmax_apply (x : FVec Ideal S128x100000 .f32) (r : Fin 128) (j : Fin 100000) :
    softmax x (ix2 r j) = Ideal.div (Ideal.exp (shifted x (ix2 r j))) (∑ k : Fin 100000, Ideal.exp (shifted x (ix2 r k))) := by
  pointwise [softmax, spread, column, rowSum_apply]

/-- The logarithm of the softmax at an entry. -/
theorem logSoftmax_apply (x : FVec Ideal S128x100000 .f32) (r : Fin 128) (j : Fin 100000) :
    logSoftmax x (ix2 r j) = shifted x (ix2 r j) - Ideal.log (∑ k : Fin 100000, Ideal.exp (shifted x (ix2 r k))) := by
  pointwise [logSoftmax, spread, column, rowSum_apply]

/-- The loss from the rows. -/
theorem loss_apply (x y : FVec Ideal S128x100000 .f32) (i : IVec S128x100000 32) (z : S_.Idx) :
    loss x y i z = - Ideal.div (∑ r : Fin 128, Row.weighted (fun j : Fin 100000 => taken x i (ix2 r j)) (fun j => taken y i (ix2 r j)))
      (Ideal.ofBits .f32 0x43000000#32) := by
  unfold loss
  rw [tempered_eq, tempered_eq]
  pointwise [rowSum_apply, zero_bits, softmax_apply, logSoftmax_apply, shifted_apply, Row.weighted]

/-- The loss taken along the order is the loss of the rows as they stand. -/
theorem loss_rows (x y : FVec Ideal S128x100000 .f32) (z : S_.Idx)
    (h : ∀ r : Fin 128, (∀ j : Fin 100000, x (ix2 r j) ≠ ⊤) ∧ ∃ j : Fin 100000, x (ix2 r j) ≠ ⊥) :
    loss x y (rejoined (order x)) z
      = 0 - Ideal.div (∑ r : Fin 128, Row.quotient (fun j : Fin 100000 => x (ix2 r j)) (fun j => y (ix2 r j))) (Ideal.ofBits .f32 0x43000000#32) := by
  obtain ⟨σ, hσ⟩ := order_perm x
  rw [loss_apply, zero_sub, rejoined_eq]
  refine congrArg Neg.neg (congrArg₂ Ideal.div (Finset.sum_congr rfl fun r _ => ?_) rfl)
  obtain ⟨h1, a, ha⟩ := h r
  have ex : (fun j : Fin 100000 => taken x (order x) (ix2 r j)) = fun j => x (ix2 r (σ r j)) :=
    funext fun j => taken_apply x (order x) r j (σ r j) (hσ r j)
  have ey : (fun j : Fin 100000 => taken y (order x) (ix2 r j)) = fun j => y (ix2 r (σ r j)) :=
    funext fun j => taken_apply y (order x) r j (σ r j) (hσ r j)
  rw [ex, ey]
  have e := Row.row_eq (t := fun j : Fin 100000 => x (ix2 r (σ r j))) (s := fun j : Fin 100000 => y (ix2 r (σ r j)))
    (fun j => h1 (σ r j)) ((σ r).symm a) (by rw [Equiv.apply_symm_apply]; exact ha)
  exact e.trans (Row.quotient_perm (fun j : Fin 100000 => x (ix2 r j)) (fun j => y (ix2 r j)) (σ r))

variable (m : (ℓ : Loc nD τ sig) → Buf (Elt Ideal) ℓ) (ρ : Dev nD → PrngReg)

/-- The reference's run: its argument arrays end unchanged and, as it declares no semaphore, every counter reads zero. -/
theorem frame_reference : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

/-- The loss of the reference's argument arrays. -/
def lossR (c : Dev nD) : FVec Ideal S_ .f32 :=
  loss (m ((c.tc : Thread nD τ).loc main_arg1)) (m ((c.tc : Thread nD τ).loc main_arg2)) (rejoined (order (F := Ideal) (m ((c.tc : Thread nD τ).loc main_arg1))))

/-- The reference's run with its result, the loss of the argument arrays. -/
theorem run_reference : θ_run defs (onTc (τ := τ) (main (F := Ideal))) ⟨m, fun _ => 0, ρ⟩ (fun r => ∀ c : Dev nD,
      r.2.mem ((c.tc : Thread nD τ).loc main_v27) = lossR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_steps m c), (h c).2⟩) (Value.run m ρ)

end Cert.ReferenceIdeal.Steps

end
-- ==== Proof.Pre.lean ====
/- The precondition read: the teacher's greatest score of every row is a real number. -/
module

public import proofs.«01_k».proof.Pre_teacher_row_maxima_finite
public import proofs.«01_k».proof.Proof.RefValue

@[expose] public section

set_option maxRecDepth 16384

noncomputable section

namespace Cert.Proof

open Idealize.ShloMosaic Cert.Pre_teacher_row_maxima_finite

/-- The shapes the precondition is written over fit. -/
theorem pre_facts : Cert.Pre_teacher_row_maxima_finite.Facts where
  reducesTo_S128x100000_S128_d1 := by decide
  h_S_ := by decide
  bcast_S_S128 := by decide
  reducesTo_S128_S_d0 := by decide

/-- The bits of the highest number. -/
theorem highest_bits : Ideal.ofBits .f32 0x7F800000#32 = ⊤ := by simp [Ideal.ofBits, Ideal.ieee]

/-- A conjunction of two truth values that holds. -/
theorem both_hold {a b : BitVec 1} (h : a &&& b = 1#1) : a = 1#1 ∧ b = 1#1 := by
  revert a b
  decide

/-- A conjunction at an index. -/
theorem andi_at {s : Shape} (a b : IVec s 1) (i : s.Idx) : andi a b i = a i &&& b i := rfl

/-- A comparison "greater" with a vector of one value. -/
theorem greater_at {s : Shape} (a b : FVec Ideal s .f32) (i : s.Idx) (h : cmpf .ogt a b i = 1#1) : b i < a i := by
  have e : cmpf .ogt a b i = BitVec.ofBool (decide (b i < a i)) := rfl
  rw [e] at h
  by_contra hn
  rw [decide_eq_false hn] at h
  exact absurd h (by decide)

/-- A comparison "less" with a vector of one value. -/
theorem less_at {s : Shape} (a b : FVec Ideal s .f32) (i : s.Idx) (h : cmpf .olt a b i = 1#1) : a i < b i := by
  have e : cmpf .olt a b i = BitVec.ofBool (decide (a i < b i)) := rfl
  rw [e] at h
  by_contra hn
  rw [decide_eq_false hn] at h
  exact absurd h (by decide)

attribute [local instance] pre_facts

/-- Under the precondition no score of the teacher is the highest, and every row has one that is not the lowest. -/
theorem pre_read (a0 : IVec S128 32) (x y : FVec Ideal S128x100000 .f32)
    (h : Cert.Pre_teacher_row_maxima_finite.fn (F := Ideal) a0 x y = fun _ => 1#1) (r : Fin 128) :
    (∀ j : Fin 100000, x (ix2 r j) ≠ ⊤) ∧ ∃ j : Fin 100000, x (ix2 r j) ≠ ⊥ := by
  have h0 := congrFun h (fun a => a.elim0)
  dsimp only [Cert.Pre_teacher_row_maxima_finite.fn] at h0
  have h1 := Host.reduce_andi_all _ _ _ _ _ h0 (ix1 r)
  rw [andi_at] at h1
  obtain ⟨hl, hh⟩ := both_hold h1
  have hl' := greater_at _ _ _ hl
  have hh' := less_at _ _ _ hh
  rw [Cert.ReferenceIdeal.Steps.reduce_max_row x _ _ Cert.ReferenceIdeal.Steps.rows_reduce _ r] at hl' hh'
  have e1 : (constant (F := Ideal) S_ .f32 0xFF800000#32) (Shape.Idx.first Facts.h_S_) = Ideal.ofBits .f32 0xFF800000#32 := rfl
  have e2 : ∀ b, (broadcastInDim S128 ![] Facts.bcast_S_S128 (constant (F := Ideal) S_ .f32 b)) (ix1 r) = Ideal.ofBits .f32 b := fun _ => rfl
  rw [e1, e2, Cert.ReferenceIdeal.Steps.lowest_bits] at hl'
  rw [e1, e2, Cert.ReferenceIdeal.Steps.lowest_bits, highest_bits] at hh'
  have hx : ∀ j : Fin 100000, x (ix2 r j) ≤ Row.top fun j : Fin 100000 => x (ix2 r j) := Row.le_top fun j : Fin 100000 => x (ix2 r j)
  refine ⟨fun j e => absurd hh' (not_lt.mpr (e ▸ hx j)), ?_⟩
  by_contra hn
  have : (fun j : Fin 100000 => x (ix2 r j)) = fun _ => ⊥ := funext fun j => by_contra fun e => hn ⟨j, e⟩
  rw [this] at hl'
  exact absurd hl' (not_lt.mpr ((Finset.fold_max_le _).mpr ⟨le_rfl, fun _ _ => le_rfl⟩))

end Cert.Proof

end
-- ==== Proof.lean ====
/- The claim about the kernel: the compiled program, the program at the ideal instance and the reference each run with their
   arguments unchanged and every counter back at zero, and under the precondition the last two end with equal results. -/
module

public import proofs.«01_k».proof.Defs
public import proofs.«01_k».proof.Proof.Compiled
public import proofs.«01_k».proof.Proof.Value
public import proofs.«01_k».proof.Proof.RefValue
public import proofs.«01_k».proof.Proof.Pre
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

attribute [local instance] pre_facts

/-- The two losses are equal where the arguments agree and the precondition holds. -/
theorem losses_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_teacher_row_maxima_finite m)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Steps.lossR m' c = fun _ => Cert.KernelIdeal.Body.lossK m c := by
  funext z
  unfold Cert.ReferenceIdeal.Steps.lossR
  rw [h1, h2]
  exact Cert.ReferenceIdeal.Steps.loss_rows _ _ z fun r => pre_read _ _ _ (hpre c) r

/-- The kernel and the reference end with equal results. -/
theorem results_agree : @Cert.algebraic_KernelIdeal_ReferenceIdeal_pre_teacher_row_maxima_finite
    Cert.KernelIdeal.Gen.facts Cert.ReferenceIdeal.Gen.facts pre_facts := by
  intro m g m' g' hpre hagree
  refine ⟨fun c => fun _ => Cert.KernelIdeal.Body.lossK m c, Cert.KernelIdeal.Body.run_value m g, ?_⟩
  refine (θ_run Cert.ReferenceIdeal.defs _ _).mono (fun r h c => ⟨(h c).1.trans ?_, (h c).2⟩) (Cert.ReferenceIdeal.Steps.run_reference m' g')
  exact losses_agree m m' c hpre (hagree c).2.1 (hagree c).2.2

/-- Every claim about the kernel. -/
theorem claim : Cert.Claim :=
  ⟨Cert.Kernel.Gen.facts, Cert.KernelIdeal.Gen.facts, Cert.ReferenceIdeal.Gen.facts, pre_facts,
    frame_kernel, fun m g _ => Cert.KernelIdeal.Body.frame_holds m g, fun m g _ => Cert.KernelIdeal.Body.frame_holds m g,
    fun m g _ => Cert.ReferenceIdeal.Steps.frame_reference m g, fun m g _ => Cert.ReferenceIdeal.Steps.frame_reference m g,
    trivial, results_agree⟩

end Cert.Proof

end
